-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x41A4E123#32 ((((7 / 100) * (Real.log 2))⁻¹ : ℝ) : EReal)
  ∧ IdealRules.named_const.Statement Cert.KernelIdeal.κ "bottom" .f32 0xC1A82D51#32 ((-((51 / 50) * ((7 / 100) * (Real.log 2))⁻¹) : ℝ) : EReal)
  ∧ IdealRules.named_const.Statement Cert.KernelIdeal.κ "top" .f32 0x41A82D51#32 (((51 / 50) * ((7 / 100) * (Real.log 2))⁻¹ : ℝ) : EReal)
  ∧ IdealRules.named_const.Statement Cert.KernelIdeal.κ "masked" .f32 0xC324E123#32 ⊥
  ∧ IdealRules.named_const.Statement Cert.KernelIdeal.κ "inv_t" .f32 0x41649249#32 (((7 / 100)⁻¹ : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def holds_KernelIdeal_near_pre_drawn [hKernelIdeal : Cert.KernelIdeal.Facts] [hPre_drawn : Cert.Pre_drawn.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (r.2.mem ((c.tc : Thread Cert.KernelIdeal.nD Cert.KernelIdeal.τ).loc Cert.KernelIdeal.main_v6))) = (fun _ => 1#1))

def Claim : Prop :=
  ∃ (hKernel : Cert.Kernel.Facts) (hKernelIdeal : Cert.KernelIdeal.Facts) (hReferenceIdeal : Cert.ReferenceIdeal.Facts) (hPre_drawn : Cert.Pre_drawn.Facts) (hPost_near : Cert.Post_near.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
    ∧ holds_KernelIdeal_near_pre_drawn (hKernelIdeal := hKernelIdeal) (hPre_drawn := hPre_drawn) (hPost_near := hPost_near)
-- ==== Post_near.lean ====
abbrev S256x768 : Shape := ⟨2, ![256, 768]⟩
abbrev S256 : Shape := ⟨1, ![256]⟩
abbrev S768x768 : Shape := ⟨2, ![768, 768]⟩
abbrev S768 : Shape := ⟨1, ![768]⟩
abbrev S768x128 : Shape := ⟨2, ![768, 128]⟩
abbrev S128 : Shape := ⟨1, ![128]⟩
abbrev S65536x128 : Shape := ⟨2, ![65536, 128]⟩
abbrev S65536 : Shape := ⟨1, ![65536]⟩
abbrev S_ : Shape := ⟨0, ![]⟩
abbrev S1x768 : Shape := ⟨2, ![1, 768]⟩
abbrev S256x128 : Shape := ⟨2, ![256, 128]⟩
abbrev S1x128 : Shape := ⟨2, ![1, 128]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S128x65536 : Shape := ⟨2, ![128, 65536]⟩
abbrev S256x65536 : Shape := ⟨2, ![256, 65536]⟩
abbrev S1x65536 : Shape := ⟨2, ![1, 65536]⟩

class Facts : Prop where
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  bcast_S_S256x768 : S_.BroadcastsInDim S256x768 (![] : Fin 0 → Fin S256x768.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  reducesTo_S256x128_S256_d1 : S256x128.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  transposes_S256x128_S128x256_1_0 : S256x128.Transposes [1, 0] S128x256
  bcast_S_S256x256 : S_.BroadcastsInDim S256x256 (![] : Fin 0 → Fin S256x256.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S65536x128_S128x65536_1_0 : S65536x128.Transposes [1, 0] S128x65536
  bcast_S65536_S1x65536_1 : S65536.BroadcastsInDim S1x65536 (![1] : Fin 1 → Fin S1x65536.rank)
  bcast_S1x65536_S256x65536_0_1 : S1x65536.BroadcastsInDim S256x65536 (![0, 1] : Fin 2 → Fin S256x65536.rank)
  bcast_S256x1_S256x65536_0_1 : S256x1.BroadcastsInDim S256x65536 (![0, 1] : Fin 2 → Fin S256x65536.rank)
  bcast_S_S1x65536 : S_.BroadcastsInDim S1x65536 (![] : Fin 0 → Fin S1x65536.rank)
  natLt_1_32 : 1 < 32
  reducesTo_S256x65536_S256_d1 : S256x65536.ReducesTo [1] S256
  bcast_S_S256x65536 : S_.BroadcastsInDim S256x65536 (![] : Fin 0 → Fin S256x65536.rank)
  sliceFits_S256x65536_S256x256 : S256x65536.Slices (fun _ => 0) S256x256
  bcast_S_S256 : S_.BroadcastsInDim S256 (![] : Fin 0 → Fin S256.rank)
  slices_S256x65536_S256x256_0_0 : S256x65536.Slices ![0, 0] S256x256
  reducesTo_S256x256_S256_d1 : S256x256.ReducesTo [1] S256
  reducesTo_S256x256_S_d0_1 : S256x256.ReducesTo [0, 1] S_
  dot_S256x768_S768x768_S256x768_1_0_0_1_n_n_wf : DotDims.WF S256x768 S768x768 S256x768 [1] [0] [0] [1] [] []
  dot_S256x768_S768x128_S256x128_1_0_0_1_n_n_wf : DotDims.WF S256x768 S768x128 S256x128 [1] [0] [0] [1] [] []
  dot_S256x128_S128x256_S256x256_1_0_0_1_n_n_wf : DotDims.WF S256x128 S128x256 S256x256 [1] [0] [0] [1] [] []
  dot_S256x128_S128x65536_S256x65536_1_0_0_1_n_n_wf : DotDims.WF S256x128 S128x65536 S256x65536 [1] [0] [0] [1] [] []

variable [Facts]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x128_S128x65536_S256x65536_1_0_0_1_n_n : DotDims S256x128 S128x65536 S256x65536 where
  lhsContracting := [1]
  rhsContracting := [0]
  lhsNonContracting := [0]
  rhsNonContracting := [1]
  lhsBatch := []
  rhsBatch := []
  wf := dot_S256x128_S128x65536_S256x65536_1_0_0_1_n_n_wf
def fn_relu {F : FTy → Type} [FloatOps F] (arg0 : FVec F S256x768 .f32) : FVec F S256x768 .f32 :=
  let cst : FVec F S_ .f32 := constant S_ .f32 0x00000000#32
  let v0 : FVec F S256x768 .f32 := broadcastInDim S256x768 ![] bcast_S_S256x768 cst
  let v1 : FVec F S256x768 .f32 := maximumf arg0 v0
  v1

def fn_where {F : FTy → Type} [FloatOps F] (arg0 : IVec S256x65536 1) (arg1 : FVec F S256x65536 .f32) (arg2 : FVec F S_ .f32) : FVec F S256x65536 .f32 :=
  let v0 : FVec F S_ .f32 := id arg2
  let v1 : FVec F S256x65536 .f32 := broadcastInDim S256x65536 ![] bcast_S_S256x65536 v0
  let v2 : FVec F S256x65536 .f32 := select arg0 arg1 v1
  v2

def fn_where_0 {F : FTy → Type} [FloatOps F] (arg0 : IVec S256x1 1) (arg1 : FVec F S256x256 .f32) (arg2 : FVec F S256x256 .f32) : FVec F S256x256 .f32 :=
  let v0 : IVec S256x256 1 := broadcastInDim S256x256 ![0, 1] bcast_S256x1_S256x256_0_1 arg0
  let v1 : FVec F S256x256 .f32 := select v0 arg1 arg2
  v1

def fn_where_1 {F : FTy → Type} [FloatOps F] (arg0 : IVec S256x256 1) (arg1 : FVec F S256x256 .f32) (arg2 : FVec F S_ .f32) : FVec F S256x256 .f32 :=
  let v0 : FVec F S_ .f32 := id arg2
  let v1 : FVec F S256x256 .f32 := broadcastInDim S256x256 ![] bcast_S_S256x256 v0
  let v2 : FVec F S256x256 .f32 := select arg0 arg1 v1
  v2

def fn_where_2 {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_part5 {F : FTy → Type} [FloatOps F] (main_arg8 : FVec F S_ .f32) (main_v97 : IVec S_ 1) (main_v99 : FVec F S_ .f32) (main_cst_15 : FVec F S_ .f32) : IVec S_ 1 :=
  let main_v100 : FVec F S_ .f32 := fn_where_2 (F := F) main_v97 main_v99 main_cst_15
  let main_v101 : FVec F S_ .f32 := subf main_arg8 main_v100
  let main_v102 : FVec F S_ .f32 := Host.absf main_v101
  let main_cst_16 : FVec F S_ .f32 := constant S_ .f32 0x3C800000#32
  let main_v103 : IVec S_ 1 := cmpf .ole main_v102 main_cst_16
  main_v103

def fn_part4 {F : FTy → Type} [FloatOps F] (main_arg8 : FVec F S_ .f32) (main_v22 : FVec F S256x256 .f32) (main_v34 : IVec S256x256 1) (main_v76 : FVec F S256x1 .f32) (main_v78 : FVec F S256x256 .f32) (main_v80 : FVec F S256x256 .f32) (main_v81 : IVec S256x256 1) : IVec S_ 1 :=
  let main_v82 : FVec F S256x256 .f32 := broadcastInDim S256x256 ![0, 1] bcast_S256x1_S256x256_0_1 main_v76
  let main_v83 : FVec F S256x256 .f32 := addf main_v22 main_v82
  let main_v84 : FVec F S256x256 .f32 := Host.absf main_v80
  let main_v85 : FVec F S256x256 .f32 := Host.negf main_v84
  let main_v86 : FVec F S256x256 .f32 := Host.exp main_v85
  let main_v87 : FVec F S256x256 .f32 := Host.log1p main_v86
  let main_v88 : FVec F S256x256 .f32 := addf main_v78 main_v87
  let main_v89 : FVec F S256x256 .f32 := select main_v81 main_v83 main_v88
  let main_v90 : FVec F S256x256 .f32 := subf main_v22 main_v89
  let main_v91 : FVec F S256x256 .f32 := Host.negf main_v90
  let main_cst_10 : FVec F S_ .f32 := constant S_ .f32 0x00000000#32
  let main_v92 : FVec F S256x256 .f32 := fn_where_1 (F := F) main_v34 main_v91 main_cst_10
  let main_cst_11 : FVec F S_ .f32 := constant S_ .f32 0x00000000#32
  let main_v93 : FVec F S_ .f32 := (fun x v => Host.reduceAdd x v reducesTo_S256x256_S_d0_1 h_S_) main_v92 main_cst_11
  let main_v94 : IVec S256x256 32 := (extui 32 · natLt_1_32) main_v34
  let main_c_12 : IVec S_ 32 := constantI S_ 32 0#32
  let main_v95 : IVec S_ 32 := (fun x v => Host.reduce IntOp.addi x v reducesTo_S256x256_S_d0_1 h_S_) main_v94 main_c_12
  let main_v96 : FVec F S_ .f32 := sitofp .f32 main_v95
  let main_cst_13 : FVec F S_ .f32 := constant S_ .f32 0x00000000#32
  let main_v97 : IVec S_ 1 := cmpf .ogt main_v96 main_cst_13
  let main_cst_14 : FVec F S_ .f32 := constant S_ .f32 0x3F800000#32
  let main_v98 : FVec F S_ .f32 := maximumf main_v96 main_cst_14
  let main_v99 : FVec F S_ .f32 := Host.divf main_v93 main_v98
  let main_cst_15 : FVec F S_ .f32 := constant S_ .f32 0x00000000#32
  fn_part5 (F := F) main_arg8 main_v97 main_v99 main_cst_15

def fn_part3 {F : FTy → Type} [FloatOps F] (main_arg8 : FVec F S_ .f32) (main_v22 : FVec F S256x256 .f32) (main_v34 : IVec S256x256 1) (main_v35 : IVec S256x256 1) (main_v59 : FVec F S256x256 .f32) (main_cst_7 : FVec F S_ .f32) : IVec S_ 1 :=
  let main_v60 : FVec F S256 .f32 := (fun x v => Host.reduceAdd x v reducesTo_S256x256_S256_d1 h_S_) main_v59 main_cst_7
  let main_v61 : FVec F S256 .f32 := Host.log main_v60
  let main_cst_8 : FVec F S_ .f32 := constant S_ .f32 0xCE6E6B28#32
  let main_v62 : FVec F S256x256 .f32 := fn_where_1 (F := F) main_v35 main_v22 main_cst_8
  let main_v63 : FVec F S256x256 .f32 := Host.exp main_v62
  let main_cst_9 : FVec F S_ .f32 := constant S_ .f32 0x00000000#32
  let main_v64 : FVec F S256 .f32 := (fun x v => Host.reduceAdd x v reducesTo_S256x256_S256_d1 h_S_) main_v63 main_cst_9
  let main_v65 : FVec F S256 .f32 := Host.log main_v64
  let main_v66 : FVec F S256 .f32 := maximumf main_v65 main_v61
  let main_v67 : FVec F S256 .f32 := subf main_v65 main_v61
  let main_v68 : IVec S256 1 := cmpf .une main_v67 main_v67
  let main_v69 : FVec F S256 .f32 := addf main_v65 main_v61
  let main_v70 : FVec F S256 .f32 := Host.absf main_v67
  let main_v71 : FVec F S256 .f32 := Host.negf main_v70
  let main_v72 : FVec F S256 .f32 := Host.exp main_v71
  let main_v73 : FVec F S256 .f32 := Host.log1p main_v72
  let main_v74 : FVec F S256 .f32 := addf main_v66 main_v73
  let main_v75 : FVec F S256 .f32 := select main_v68 main_v69 main_v74
  let main_v76 : FVec F S256x1 .f32 := broadcastInDim S256x1 ![0] bcast_S256_S256x1_0 main_v75
  let main_v77 : FVec F S256x256 .f32 := broadcastInDim S256x256 ![0, 1] bcast_S256x1_S256x256_0_1 main_v76
  let main_v78 : FVec F S256x256 .f32 := maximumf main_v22 main_v77
  let main_v79 : FVec F S256x256 .f32 := broadcastInDim S256x256 ![0, 1] bcast_S256x1_S256x256_0_1 main_v76
  let main_v80 : FVec F S256x256 .f32 := subf main_v22 main_v79
  let main_v81 : IVec S256x256 1 := cmpf .une main_v80 main_v80
  fn_part4 (F := F) main_arg8 main_v22 main_v34 main_v76 main_v78 main_v80 main_v81

def fn_part2 {F : FTy → Type} [FloatOps F] (main_arg7 : IVec S65536 32) (main_arg8 : FVec F S_ .f32) (main_v0 : FVec F S_ .f32) (main_v22 : FVec F S256x256 .f32) (main_v34 : IVec S256x256 1) (main_v35 : IVec S256x256 1) (main_v37 : FVec F S256x65536 .f32) (main_v42 : IVec S256x65536 1) : IVec S_ 1 :=
  let main_v43 : IVec S1x65536 32 := broadcastInDim S1x65536 ![1] bcast_S65536_S1x65536_1 main_arg7
  let main_c_3 : IVec S_ 32 := constantI S_ 32 0#32
  let main_v44 : IVec S1x65536 32 := broadcastInDim S1x65536 ![] bcast_S_S1x65536 main_c_3
  let main_v45 : IVec S1x65536 1 := cmpi .sge main_v43 main_v44
  let main_v46 : IVec S256x65536 1 := broadcastInDim S256x65536 ![0, 1] bcast_S1x65536_S256x65536_0_1 main_v45
  let main_v47 : IVec S256x65536 1 := andi main_v42 main_v46
  let main_v48 : IVec S256x65536 32 := (extui 32 · natLt_1_32) main_v47
  let main_c_4 : IVec S_ 32 := constantI S_ 32 0#32
  let main_v49 : IVec S256 32 := (fun x v => Host.reduce IntOp.addi x v reducesTo_S256x65536_S256_d1 h_S_) main_v48 main_c_4
  let main_cst_5 : FVec F S_ .f32 := constant S_ .f32 0xCE6E6B28#32
  let main_v50 : FVec F S256x65536 .f32 := fn_where (F := F) main_v47 main_v37 main_cst_5
  let main_values : FVec F S256x256 .f32 := (fun x => (Host.topK S256x256 1 (FloatOps.cmpfTotal .gt) x sliceFits_S256x65536_S256x256).1) main_v50
  let main_indices : IVec S256x256 32 := (fun x => (Host.topK S256x256 1 (FloatOps.cmpfTotal .gt) x sliceFits_S256x65536_S256x256).2) main_v50
  let main_c_6 : IVec S_ 32 := constantI S_ 32 0#32
  let main_v51 : IVec S256 32 := broadcastInDim S256 ![] bcast_S_S256 main_c_6
  let main_v52 : IVec S256 1 := cmpi .sgt main_v49 main_v51
  let main_v53 : IVec S256x1 1 := broadcastInDim S256x1 ![0] bcast_S256_S256x1_0 main_v52
  let main_v54 : FVec F S256x256 .f32 := (extractStridedSlice S256x256 ![0, 0] · slices_S256x65536_S256x256_0_0) main_v37
  let main_v55 : FVec F S256x256 .f32 := fn_where_0 (F := F) main_v53 main_values main_v54
  let main_v56 : FVec F S_ .f32 := id main_v0
  let main_v57 : FVec F S256x256 .f32 := broadcastInDim S256x256 ![] bcast_S_S256x256 main_v56
  let main_v58 : FVec F S256x256 .f32 := Host.divf main_v55 main_v57
  let main_v59 : FVec F S256x256 .f32 := Host.exp main_v58
  let main_cst_7 : FVec F S_ .f32 := constant S_ .f32 0x00000000#32
  fn_part3 (F := F) main_arg8 main_v22 main_v34 main_v35 main_v59 main_cst_7

def fn_part1 {F : FTy → Type} [FloatOps F] (main_arg1 : IVec S256 32) (main_arg6 : FVec F S65536x128 .f32) (main_arg7 : IVec S65536 32) (main_arg8 : FVec F S_ .f32) (main_v0 : FVec F S_ .f32) (main_v17 : FVec F S256x128 .f32) (main_v19 : FVec F S256x256 .f32) : IVec S_ 1 :=
  let main_v20 : FVec F S_ .f32 := id main_v0
  let main_v21 : FVec F S256x256 .f32 := broadcastInDim S256x256 ![] bcast_S_S256x256 main_v20
  let main_v22 : FVec F S256x256 .f32 := Host.divf main_v19 main_v21
  let main_v23 : IVec S256x1 32 := broadcastInDim S256x1 ![0] bcast_S256_S256x1_0 main_arg1
  let main_v24 : IVec S1x256 32 := broadcastInDim S1x256 ![1] bcast_S256_S1x256_1 main_arg1
  let main_v25 : IVec S256x256 32 := broadcastInDim S256x256 ![0, 1] bcast_S256x1_S256x256_0_1 main_v23
  let main_v26 : IVec S256x256 32 := broadcastInDim S256x256 ![0, 1] bcast_S1x256_S256x256_0_1 main_v24
  let main_v27 : IVec S256x256 1 := cmpi .eq main_v25 main_v26
  let main_v28 : IVec S256x256 32 := iotaInDim S256x256 32 0
  let main_v29 : IVec S256x256 32 := iotaInDim S256x256 32 1
  let main_c : IVec S_ 32 := constantI S_ 32 0#32
  let main_v30 : IVec S256x256 32 := broadcastInDim S256x256 ![] bcast_S_S256x256 main_c
  let main_v31 : IVec S256x256 32 := addi main_v28 main_v30
  let main_v32 : IVec S256x256 1 := cmpi .eq main_v31 main_v29
  let main_v33 : IVec S256x256 1 := noti main_v32
  let main_v34 : IVec S256x256 1 := andi main_v27 main_v33
  let main_v35 : IVec S256x256 1 := noti main_v27
  let main_v36 : FVec F S128x65536 .f32 := (transpose S128x65536 [1, 0] · transposes_S65536x128_S128x65536_1_0) main_arg6
  let main_v37 : FVec F S256x65536 .f32 := (fun l r => Host.dotGeneral dot_S256x128_S128x65536_S256x65536_1_0_0_1_n_n none l r) main_v17 main_v36
  let main_v38 : IVec S1x65536 32 := broadcastInDim S1x65536 ![1] bcast_S65536_S1x65536_1 main_arg7
  let main_v39 : IVec S256x1 32 := broadcastInDim S256x1 ![0] bcast_S256_S256x1_0 main_arg1
  let main_v40 : IVec S256x65536 32 := broadcastInDim S256x65536 ![0, 1] bcast_S1x65536_S256x65536_0_1 main_v38
  let main_v41 : IVec S256x65536 32 := broadcastInDim S256x65536 ![0, 1] bcast_S256x1_S256x65536_0_1 main_v39
  let main_v42 : IVec S256x65536 1 := cmpi .ne main_v40 main_v41
  fn_part2 (F := F) main_arg7 main_arg8 main_v0 main_v22 main_v34 main_v35 main_v37 main_v42

def fn {F : FTy → Type} [FloatOps F] (main_arg0 : FVec F S256x768 .f32) (main_arg1 : IVec S256 32) (main_arg2 : FVec F S768x768 .f32) (main_arg3 : FVec F S768 .f32) (main_arg4 : FVec F S768x128 .f32) (main_arg5 : FVec F S128 .f32) (main_arg6 : FVec F S65536x128 .f32) (main_arg7 : IVec S65536 32) (main_arg8 : FVec F S_ .f32) : IVec S_ 1 :=
  let main_cst : FVec F S_ .f32 := constant S_ .f32 0x40E00000#32
  let main_cst_0 : FVec F S_ .f32 := constant S_ .f32 0x42C80000#32
  let main_v0 : FVec F S_ .f32 := Host.divf main_cst main_cst_0
  let main_v1 : FVec F S256x768 .f32 := (fun l r => Host.dotGeneral dot_S256x768_S768x768_S256x768_1_0_0_1_n_n none l r) main_arg0 main_arg2
  let main_v2 : FVec F S1x768 .f32 := broadcastInDim S1x768 ![1] bcast_S768_S1x768_1 main_arg3
  let main_v3 : FVec F S256x768 .f32 := broadcastInDim S256x768 ![0, 1] bcast_S1x768_S256x768_0_1 main_v2
  let main_v4 : FVec F S256x768 .f32 := addf main_v1 main_v3
  let main_v5 : FVec F S256x768 .f32 := fn_relu (F := F) main_v4
  let main_v6 : FVec F S256x128 .f32 := (fun l r => Host.dotGeneral dot_S256x768_S768x128_S256x128_1_0_0_1_n_n none l r) main_v5 main_arg4
  let main_v7 : FVec F S1x128 .f32 := broadcastInDim S1x128 ![1] bcast_S128_S1x128_1 main_arg5
  let main_v8 : FVec F S256x128 .f32 := broadcastInDim S256x128 ![0, 1] bcast_S1x128_S256x128_0_1 main_v7
  let main_v9 : FVec F S256x128 .f32 := addf main_v6 main_v8
  let main_v10 : FVec F S256x128 .f32 := mulf main_v9 main_v9
  let main_cst_1 : FVec F S_ .f32 := constant S_ .f32 0x00000000#32
  let main_v11 : FVec F S256 .f32 := (fun x v => Host.reduceAdd x v reducesTo_S256x128_S256_d1 h_S_) main_v10 main_cst_1
  let main_v12 : FVec F S256x1 .f32 := broadcastInDim S256x1 ![0] bcast_S256_S256x1_0 main_v11
  let main_v13 : FVec F S256x1 .f32 := Host.sqrt main_v12
  let main_cst_2 : FVec F S_ .f32 := constant S_ .f32 0x2B8CBCCC#32
  let main_v14 : FVec F S256x1 .f32 := broadcastInDim S256x1 ![] bcast_S_S256x1 main_cst_2
  let main_v15 : FVec F S256x1 .f32 := maximumf main_v13 main_v14
  let main_v16 : FVec F S256x128 .f32 := broadcastInDim S256x128 ![0, 1] bcast_S256x1_S256x128_0_1 main_v15
  let main_v17 : FVec F S256x128 .f32 := Host.divf main_v9 main_v16
  let main_v18 : FVec F S128x256 .f32 := (transpose S128x256 [1, 0] · transposes_S256x128_S128x256_1_0) main_v17
  let main_v19 : FVec F S256x256 .f32 := (fun l r => Host.dotGeneral dot_S256x128_S128x256_S256x256_1_0_0_1_n_n none l r) main_v17 main_v18
  fn_part1 (F := F) main_arg1 main_arg6 main_arg7 main_arg8 main_v0 main_v17 main_v19
-- ==== Pre_drawn.lean ====
abbrev S256x768 : Shape := ⟨2, ![256, 768]⟩
abbrev S256 : Shape := ⟨1, ![256]⟩
abbrev S768x768 : Shape := ⟨2, ![768, 768]⟩
abbrev S768 : Shape := ⟨1, ![768]⟩
abbrev S768x128 : Shape := ⟨2, ![768, 128]⟩
abbrev S128 : Shape := ⟨1, ![128]⟩
abbrev S65536x128 : Shape := ⟨2, ![65536, 128]⟩
abbrev S65536 : Shape := ⟨1, ![65536]⟩
abbrev S_ : Shape := ⟨0, ![]⟩

class Facts : Prop where
  bcast_S_S256 : S_.BroadcastsInDim S256 (![] : Fin 0 → Fin S256.rank)
  bcast_S_S65536 : S_.BroadcastsInDim S65536 (![] : Fin 0 → Fin S65536.rank)
  bcast_S_S256x768 : S_.BroadcastsInDim S256x768 (![] : Fin 0 → Fin S256x768.rank)
  bcast_S_S768x768 : S_.BroadcastsInDim S768x768 (![] : Fin 0 → Fin S768x768.rank)
  bcast_S_S768 : S_.BroadcastsInDim S768 (![] : Fin 0 → Fin S768.rank)
  bcast_S_S768x128 : S_.BroadcastsInDim S768x128 (![] : Fin 0 → Fin S768x128.rank)
  bcast_S_S128 : S_.BroadcastsInDim S128 (![] : Fin 0 → Fin S128.rank)
  reducesTo_S65536x128_S65536_d1 : S65536x128.ReducesTo [1] S65536
  h_S_ : 0 < S_.numel

variable [Facts]

def fn_part1 {F : FTy → Type} [FloatOps F] (main_arg4 : FVec F S768x128 .f32) (main_arg5 : FVec F S128 .f32) (main_arg6 : FVec F S65536x128 .f32) (main_v4 : IVec S256 1) (main_v9 : IVec S65536 1) (main_v12 : IVec S256x768 1) (main_v15 : IVec S768x768 1) (main_v16 : FVec F S768 .f32) (main_cst_4 : FVec F S_ .f32) : IVec S256 1 × IVec S65536 1 × IVec S256x768 1 × IVec S768x768 1 × IVec S768 1 × IVec S768x128 1 × IVec S128 1 × IVec S65536 1 :=
  let main_v17 : FVec F S768 .f32 := broadcastInDim S768 ![] bcast_S_S768 main_cst_4
  let main_v18 : IVec S768 1 := cmpf .olt main_v16 main_v17
  let main_v19 : FVec F S768x128 .f32 := Host.absf main_arg4
  let main_cst_5 : FVec F S_ .f32 := constant S_ .f32 0x7F800000#32
  let main_v20 : FVec F S768x128 .f32 := broadcastInDim S768x128 ![] bcast_S_S768x128 main_cst_5
  let main_v21 : IVec S768x128 1 := cmpf .olt main_v19 main_v20
  let main_v22 : FVec F S128 .f32 := Host.absf main_arg5
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  let main_v25 : FVec F S65536x128 .f32 := mulf main_arg6 main_arg6
  let main_cst_7 : FVec F S_ .f32 := constant S_ .f32 0x00000000#32
  let main_v26 : FVec F S65536 .f32 := (fun x v => Host.reduceAdd x v reducesTo_S65536x128_S65536_d1 h_S_) main_v25 main_cst_7
  let main_cst_8 : FVec F S_ .f32 := constant S_ .f32 0x3F828F5C#32
  let main_v27 : FVec F S65536 .f32 := broadcastInDim S65536 ![] bcast_S_S65536 main_cst_8
  let main_v28 : IVec S65536 1 := cmpf .ole main_v26 main_v27
  (main_v4, main_v9, main_v12, main_v15, main_v18, main_v21, main_v24, main_v28)

def fn {F : FTy → Type} [FloatOps F] (main_arg0 : FVec F S256x768 .f32) (main_arg1 : IVec S256 32) (main_arg2 : FVec F S768x768 .f32) (main_arg3 : FVec F S768 .f32) (main_arg4 : FVec F S768x128 .f32) (main_arg5 : FVec F S128 .f32) (main_arg6 : FVec F S65536x128 .f32) (main_arg7 : IVec S65536 32) : IVec S256 1 × IVec S65536 1 × IVec S256x768 1 × IVec S768x768 1 × IVec S768 1 × IVec S768x128 1 × IVec S128 1 × IVec S65536 1 :=
  let main_c : IVec S_ 32 := constantI S_ 32 0#32
  let main_v0 : IVec S256 32 := broadcastInDim S256 ![] bcast_S_S256 main_c
  let main_v1 : IVec S256 1 := cmpi .eq main_arg1 main_v0
  let main_c_0 : IVec S_ 32 := constantI S_ 32 1#32
  let main_v2 : IVec S256 32 := broadcastInDim S256 ![] bcast_S_S256 main_c_0
  let main_v3 : IVec S256 1 := cmpi .eq main_arg1 main_v2
  let main_v4 : IVec S256 1 := ori main_v1 main_v3
  let main_c_1 : IVec S_ 32 := constantI S_ 32 0#32
  let main_v5 : IVec S65536 32 := broadcastInDim S65536 ![] bcast_S_S65536 main_c_1
  let main_v6 : IVec S65536 1 := cmpi .eq main_arg7 main_v5
  let main_c_2 : IVec S_ 32 := constantI S_ 32 1#32
  let main_v7 : IVec S65536 32 := broadcastInDim S65536 ![] bcast_S_S65536 main_c_2
  let main_v8 : IVec S65536 1 := cmpi .eq main_arg7 main_v7
  let main_v9 : IVec S65536 1 := ori main_v6 main_v8
  let main_v10 : FVec F S256x768 .f32 := Host.absf main_arg0
  let main_cst : FVec F S_ .f32 := constant S_ .f32 0x7F800000#32
  let main_v11 : FVec F S256x768 .f32 := broadcastInDim S256x768 ![] bcast_S_S256x768 main_cst
  let main_v12 : IVec S256x768 1 := cmpf .olt main_v10 main_v11
  let main_v13 : FVec F S768x768 .f32 := Host.absf main_arg2
  let main_cst_3 : FVec F S_ .f32 := constant S_ .f32 0x7F800000#32
  let main_v14 : FVec F S768x768 .f32 := broadcastInDim S768x768 ![] bcast_S_S768x768 main_cst_3
  let main_v15 : IVec S768x768 1 := cmpf .olt main_v13 main_v14
  let main_v16 : FVec F S768 .f32 := Host.absf main_arg3
  let main_cst_4 : FVec F S_ .f32 := constant S_ .f32 0x7F800000#32
  fn_part1 (F := F) main_arg4 main_arg5 main_arg6 main_v4 main_v9 main_v12 main_v15 main_v16 main_cst_4
-- ==== Kernel.lean ====
abbrev S256x768 : Shape := ⟨2, ![256, 768]⟩
abbrev S256 : Shape := ⟨1, ![256]⟩
abbrev S768x768 : Shape := ⟨2, ![768, 768]⟩
abbrev S768 : Shape := ⟨1, ![768]⟩
abbrev S768x128 : Shape := ⟨2, ![768, 128]⟩
abbrev S128 : Shape := ⟨1, ![128]⟩
abbrev S65536x128 : Shape := ⟨2, ![65536, 128]⟩
abbrev S65536 : Shape := ⟨1, ![65536]⟩
abbrev S256x1 : Shape := ⟨2, ![256, 1]⟩
abbrev S1x256 : Shape := ⟨2, ![1, 256]⟩
abbrev S1x768 : Shape := ⟨2, ![1, 768]⟩
abbrev S1x128 : Shape := ⟨2, ![1, 128]⟩
abbrev S16x1x4096 : Shape := ⟨3, ![16, 1, 4096]⟩
abbrev S1x1 : Shape := ⟨2, ![1, 1]⟩
abbrev S4096x128 : Shape := ⟨2, ![4096, 128]⟩
abbrev S1x1x4096 : Shape := ⟨3, ![1, 1, 4096]⟩
abbrev S256x128 : Shape := ⟨2, ![256, 128]⟩
abbrev S16x256x4096 : Shape := ⟨3, ![16, 256, 4096]⟩
abbrev S256x256 : Shape := ⟨2, ![256, 256]⟩
abbrev S256x4096 : Shape := ⟨2, ![256, 4096]⟩
abbrev S1x4096 : Shape := ⟨2, ![1, 4096]⟩
abbrev S1 : Shape := ⟨1, ![1]⟩
abbrev S1x256x4096 : Shape := ⟨3, ![1, 256, 4096]⟩
abbrev S1x256x256 : Shape := ⟨3, ![1, 256, 256]⟩
abbrev S1x1x1 : Shape := ⟨3, ![1, 1, 1]⟩
abbrev S_ : Shape := ⟨0, ![]⟩

abbrev nBuf : Space → Nat
  | .hbm => 15
  | .vmem => 20
  | .smem => 0
  | _ => 0

abbrev bufTy : (tb : Table) → Fin (tcTables nBuf tb) → BufTy
  | .hbm, ⟨0, _⟩ => ⟨S256x768, .f32⟩
  | .hbm, ⟨1, _⟩ => ⟨S256, .i32⟩
  | .hbm, ⟨2, _⟩ => ⟨S768x768, .f32⟩
  | .hbm, ⟨3, _⟩ => ⟨S768, .f32⟩
  | .hbm, ⟨4, _⟩ => ⟨S768x128, .f32⟩
  | .hbm, ⟨5, _⟩ => ⟨S128, .f32⟩
  | .hbm, ⟨6, _⟩ => ⟨S65536x128, .f32⟩
  | .hbm, ⟨7, _⟩ => ⟨S65536, .i32⟩
  | .hbm, ⟨8, _⟩ => ⟨S256x1, .i32⟩
  | .hbm, ⟨9, _⟩ => ⟨S1x256, .i32⟩
  | .hbm, ⟨10, _⟩ => ⟨S1x768, .f32⟩
  | .hbm, ⟨11, _⟩ => ⟨S1x128, .f32⟩
  | .hbm, ⟨12, _⟩ => ⟨S16x1x4096, .i32⟩
  | .hbm, ⟨13, _⟩ => ⟨S1x1, .f32⟩
  | .hbm, ⟨14, _⟩ => ⟨S_, .f32⟩
  | .local _ .vmem, ⟨0, _⟩ => ⟨S256x768, .f32⟩
  | .local _ .vmem, ⟨1, _⟩ => ⟨S256x1, .i32⟩
  | .local _ .vmem, ⟨2, _⟩ => ⟨S1x256, .i32⟩
  | .local _ .vmem, ⟨3, _⟩ => ⟨S768x768, .f32⟩
  | .local _ .vmem, ⟨4, _⟩ => ⟨S1x768, .f32⟩
  | .local _ .vmem, ⟨5, _⟩ => ⟨S768x128, .f32⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S1x1x4096, .i32⟩
  | .local _ .vmem, ⟨10, _⟩ => ⟨S1x1x4096, .i32⟩
  | .local _ .vmem, ⟨11, _⟩ => ⟨S1x1, .f32⟩
  | .local _ .vmem, ⟨12, _⟩ => ⟨S256x128, .f32⟩
  | .local _ .vmem, ⟨13, _⟩ => ⟨S256x128, .f32⟩
  | .local _ .vmem, ⟨14, _⟩ => ⟨S16x256x4096, .bf16⟩
  | .local _ .vmem, ⟨15, _⟩ => ⟨S1x1, .f32⟩
  | .local _ .vmem, ⟨16, _⟩ => ⟨S256x256, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v32 : Index := Scalar.indexCast arg0
  let c0_18 : Index := 0#32
  let c0_19 : Index := 0#32
  ![v32.toNat, 0, 0]
def k0_cond4 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4096 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "bottom" => some ((-((51 / 50) * ((7 / 100) * (Real.log 2))⁻¹) : ℝ) : EReal)
  | "inv_t" => some (((7 / 100)⁻¹ : ℝ) : EReal)
  | "masked" => some ⊥
  | "scale" => some ((((7 / 100) * (Real.log 2))⁻¹ : ℝ) : EReal)
  | "top" => some (((51 / 50) * ((7 / 100) * (Real.log 2))⁻¹ : ℝ) : EReal)
  | _ => none
-- ==== ReferenceIdeal.lean ====
abbrev S256x768 : Shape := ⟨2, ![256, 768]⟩
abbrev S256 : Shape := ⟨1, ![256]⟩
abbrev S768x768 : Shape := ⟨2, ![768, 768]⟩
abbrev S768 : Shape := ⟨1, ![768]⟩
abbrev S768x128 : Shape := ⟨2, ![768, 128]⟩
abbrev S128 : Shape := ⟨1, ![128]⟩
abbrev S65536x128 : Shape := ⟨2, ![65536, 128]⟩
abbrev S65536 : Shape := ⟨1, ![65536]⟩
abbrev S_ : Shape := ⟨0, ![]⟩
abbrev S1x768 : Shape := ⟨2, ![1, 768]⟩
abbrev S256x128 : Shape := ⟨2, ![256, 128]⟩
abbrev S1x128 : Shape := ⟨2, ![1, 128]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S128x65536 : Shape := ⟨2, ![128, 65536]⟩
abbrev S256x65536 : Shape := ⟨2, ![256, 65536]⟩
abbrev S1x65536 : Shape := ⟨2, ![1, 65536]⟩

abbrev nBuf : Space → Nat
  | .hbm => 184
  | .vmem => 0
  | .smem => 0
  | _ => 0

abbrev hbmTy0_0 (i : Nat) : BufTy := match i % 128 with
  | 0 => ⟨S256x768, .f32⟩
  | 1 => ⟨S256, .i32⟩
  | 2 => ⟨S768x768, .f32⟩
  | 3 => ⟨S768, .f32⟩
  | 4 => ⟨S768x128, .f32⟩
  | 5 => ⟨S128, .f32⟩
  | 6 => ⟨S65536x128, .f32⟩
  | 7 => ⟨S65536, .i32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S256x768, .f32⟩
  | 15 => ⟨S1x768, .f32⟩
  | 16 => ⟨S256x768, .f32⟩
  | 17 => ⟨S256x768, .f32⟩
  | 18 => ⟨S_, .f32⟩
  | 19 => ⟨S256x768, .f32⟩
  | 20 => ⟨S256x768, .f32⟩
  | 21 => ⟨S256x128, .f32⟩
  | 22 => ⟨S1x128, .f32⟩
  | 23 => ⟨S256x128, .f32⟩
  | 24 => ⟨S256x128, .f32⟩
  | 25 => ⟨S256x128, .f32⟩
  | 26 => ⟨S_, .f32⟩
  | 27 => ⟨S256, .f32⟩
  | 28 => ⟨S256x1, .f32⟩
  | 29 => ⟨S256x1, .f32⟩
  | 30 => ⟨S_, .f32⟩
  | 31 => ⟨S256x1, .f32⟩
  | 32 => ⟨S256x1, .f32⟩
  | 33 => ⟨S256x128, .f32⟩
  | 34 => ⟨S256x128, .f32⟩
  | 35 => ⟨S128x256, .f32⟩
  | 36 => ⟨S256x256, .f32⟩
  | 37 => ⟨S_, .f32⟩
  | 38 => ⟨S256x256, .f32⟩
  | 39 => ⟨S256x256, .f32⟩
  | 40 => ⟨S256x1, .i32⟩
  | 41 => ⟨S1x256, .i32⟩
  | 42 => ⟨S256x256, .i32⟩
  | 43 => ⟨S256x256, .i32⟩
  | 44 => ⟨S256x256, .i1⟩
  | 45 => ⟨S256x256, .i32⟩
  | 46 => ⟨S256x256, .i32⟩
  | 47 => ⟨S_, .i32⟩
  | 48 => ⟨S256x256, .i32⟩
  | 49 => ⟨S256x256, .i32⟩
  | 50 => ⟨S256x256, .i1⟩
  | 51 => ⟨S256x256, .i1⟩
  | 52 => ⟨S256x256, .i1⟩
  | 53 => ⟨S256x256, .i1⟩
  | 54 => ⟨S128x65536, .f32⟩
  | 55 => ⟨S256x65536, .f32⟩
  | 56 => ⟨S1x65536, .i32⟩
  | 57 => ⟨S256x1, .i32⟩
  | 58 => ⟨S256x65536, .i32⟩
  | 59 => ⟨S256x65536, .i32⟩
  | 60 => ⟨S256x65536, .i1⟩
  | 61 => ⟨S1x65536, .i32⟩
  | 62 => ⟨S_, .i32⟩
  | 63 => ⟨S1x65536, .i32⟩
  | 64 => ⟨S1x65536, .i1⟩
  | 65 => ⟨S256x65536, .i1⟩
  | 66 => ⟨S256x65536, .i1⟩
  | 67 => ⟨S256x65536, .i32⟩
  | 68 => ⟨S_, .i32⟩
  | 69 => ⟨S256, .i32⟩
  | 70 => ⟨S_, .f32⟩
  | 71 => ⟨S_, .f32⟩
  | 72 => ⟨S256x65536, .f32⟩
  | 73 => ⟨S256x65536, .f32⟩
  | 74 => ⟨S256x256, .f32⟩
  | 75 => ⟨S256x256, .i32⟩
  | 76 => ⟨S256x1, .f32⟩
  | 77 => ⟨S_, .f32⟩
  | 78 => ⟨S256x1, .f32⟩
  | 79 => ⟨S256x1, .f32⟩
  | 80 => ⟨S_, .f32⟩
  | 81 => ⟨S256x1, .f32⟩
  | 82 => ⟨S256x1, .f32⟩
  | 83 => ⟨S_, .f32⟩
  | 84 => ⟨S256x1, .f32⟩
  | 85 => ⟨S256x1, .f32⟩
  | 86 => ⟨S256x1, .f32⟩
  | 87 => ⟨S_, .f32⟩
  | 88 => ⟨S256x1, .f32⟩
  | 89 => ⟨S256x1, .f32⟩
  | 90 => ⟨S_, .f32⟩
  | 91 => ⟨S256x1, .f32⟩
  | 92 => ⟨S256x1, .f32⟩
  | 93 => ⟨S_, .f32⟩
  | 94 => ⟨S256x1, .f32⟩
  | 95 => ⟨S256x1, .f32⟩
  | 96 => ⟨S_, .f32⟩
  | 97 => ⟨S256x1, .f32⟩
  | 98 => ⟨S256x1, .f32⟩
  | 99 => ⟨S_, .f32⟩
  | 100 => ⟨S256x1, .f32⟩
  | 101 => ⟨S256x1, .f32⟩
  | 102 => ⟨S_, .f32⟩
  | 103 => ⟨S256x1, .f32⟩
  | 104 => ⟨S256x1, .f32⟩
  | 105 => ⟨S_, .f32⟩
  | 106 => ⟨S256x1, .f32⟩
  | 107 => ⟨S256x1, .f32⟩
  | 108 => ⟨S256x256, .f32⟩
  | 109 => ⟨S256x256, .i1⟩
  | 110 => ⟨S256x256, .f32⟩
  | 111 => ⟨S256x256, .f32⟩
  | 112 => ⟨S_, .i32⟩
  | 113 => ⟨S256, .i32⟩
  | 114 => ⟨S256, .i1⟩
  | 115 => ⟨S256x1, .i1⟩
  | 116 => ⟨S256x256, .i1⟩
  | 117 => ⟨S256x256, .f32⟩
  | 118 => ⟨S_, .i32⟩
  | 119 => ⟨S256, .i32⟩
  | 120 => ⟨S256, .i1⟩
  | 121 => ⟨S256x1, .i1⟩
  | 122 => ⟨S256x256, .f32⟩
  | 123 => ⟨S256x256, .i1⟩
  | 124 => ⟨S256x256, .f32⟩
  | 125 => ⟨S_, .f32⟩
  | 126 => ⟨S256x256, .f32⟩
  | 127 => ⟨S256x256, .f32⟩
  | _ => ⟨S256x768, .f32⟩

abbrev hbmTy0_1 (i : Nat) : BufTy := match i % 128 with
  | 0 => ⟨S256x256, .f32⟩
  | 1 => ⟨S_, .f32⟩
  | 2 => ⟨S256, .f32⟩
  | 3 => ⟨S256, .f32⟩
  | 4 => ⟨S_, .f32⟩
  | 5 => ⟨S_, .f32⟩
  | 6 => ⟨S256x256, .f32⟩
  | 7 => ⟨S256x256, .f32⟩
  | 8 => ⟨S256x256, .f32⟩
  | 9 => ⟨S_, .f32⟩
  | 10 => ⟨S256, .f32⟩
  | 11 => ⟨S256, .f32⟩
  | 12 => ⟨S256, .f32⟩
  | 13 => ⟨S256, .f32⟩
  | 14 => ⟨S256, .i1⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S256x1, .f32⟩
  | 23 => ⟨S256x256, .f32⟩
  | 24 => ⟨S256x256, .f32⟩
  | 25 => ⟨S256x256, .f32⟩
  | 26 => ⟨S256x256, .f32⟩
  | 27 => ⟨S256x256, .i1⟩
  | 28 => ⟨S256x256, .f32⟩
  | 29 => ⟨S256x256, .f32⟩
  | 30 => ⟨S256x256, .f32⟩
  | 31 => ⟨S256x256, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S_, .f32⟩
  | 39 => ⟨S_, .f32⟩
  | 40 => ⟨S256x256, .f32⟩
  | 41 => ⟨S256x256, .f32⟩
  | 42 => ⟨S_, .f32⟩
  | 43 => ⟨S_, .f32⟩
  | 44 => ⟨S256x256, .i32⟩
  | 45 => ⟨S_, .i32⟩
  | 46 => ⟨S_, .i32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S256x768, .f32⟩

abbrev hbmTy (i : Nat) : BufTy := match i / 128 with
  | 0 => hbmTy0_0 i
  | 1 => hbmTy0_1 i
  | _ => ⟨S256x768, .f32⟩

abbrev bufTy : (tb : Table) → Fin (tcTables nBuf tb) → BufTy
  | .hbm, ⟨i, _⟩ => hbmTy i
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_cst_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_6 : Ref sig .tc := ⟨.hbm, 68, rfl⟩
abbrev main_v50 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_values : Ref sig .tc := ⟨.hbm, 74, rfl⟩
abbrev main_indices : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_v0 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call3_v0 : Ref sig .tc := ⟨.hbm, 116, rfl⟩
abbrev main_v86 : Ref sig .tc := ⟨.hbm, 117, rfl⟩
abbrev main_c_13 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call4_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_14 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_call5_v0 : Ref sig .tc := ⟨.hbm, 133, rfl⟩
abbrev main_call5_v1 : Ref sig .tc := ⟨.hbm, 134, rfl⟩
abbrev main_v98 : Ref sig .tc := ⟨.hbm, 135, rfl⟩
abbrev main_v99 : Ref sig .tc := ⟨.hbm, 136, rfl⟩
abbrev main_cst_16 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_17 : Ref sig .tc := ⟨.hbm, 166, rfl⟩
abbrev main_call6_v0 : Ref sig .tc := ⟨.hbm, 167, rfl⟩
abbrev main_call6_v1 : Ref sig .tc := ⟨.hbm, 168, rfl⟩
abbrev main_v128 : Ref sig .tc := ⟨.hbm, 169, rfl⟩
abbrev main_cst_18 : Ref sig .tc := ⟨.hbm, 170, rfl⟩
abbrev main_v129 : Ref sig .tc := ⟨.hbm, 171, rfl⟩
abbrev main_v130 : Ref sig .tc := ⟨.hbm, 172, rfl⟩
abbrev main_c_19 : Ref sig .tc := ⟨.hbm, 173, rfl⟩
abbrev main_v131 : Ref sig .tc := ⟨.hbm, 174, rfl⟩
abbrev main_v132 : Ref sig .tc := ⟨.hbm, 175, rfl⟩
abbrev main_cst_20 : Ref sig .tc := ⟨.hbm, 176, rfl⟩
abbrev main_v133 : Ref sig .tc := ⟨.hbm, 177, rfl⟩
abbrev main_cst_21 : Ref sig .tc := ⟨.hbm, 178, rfl⟩
abbrev main_v134 : Ref sig .tc := ⟨.hbm, 179, rfl⟩
abbrev main_v135 : Ref sig .tc := ⟨.hbm, 180, rfl⟩
abbrev main_cst_22 : Ref sig .tc := ⟨.hbm, 181, rfl⟩
abbrev main_call7_v0 : Ref sig .tc := ⟨.hbm, 182, rfl⟩
abbrev main_v136 : Ref sig .tc := ⟨.hbm, 183, rfl⟩

abbrev nD : Nat := 1
abbrev τ : Topo := Topo.v7x

variable {F : FTy → Type} [FloatOps F]
-- ==== Proof.KernelIdeal.Passes.lean ====
module

public import proofs.«01_k».proof.Proof.Gen.KernelIdeal.Frame
public import proofs.«01_k».proof.Proof.Gen.KernelIdeal.Loops
public import Idealize.ShloMosaic.Lib.VecWindow
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the last point computes, as functions of what the scratch holds -/

/-- Slab `j` of the masked similarities. -/
def slab (q : Vec F S16x256x4096 .bf16) (j : Fin 16) : Vec F S1x256x4096 .bf16 :=
  VecWindow.window q ![j.val, 0, 0] S1x256x4096.size (fun a => by
    have := j.isLt
    fin_cases a
    · show j.val + 1 ≤ 16; omega
    · show 0 + 256 ≤ 256; omega
    · show 0 + 4096 ≤ 4096; omega)

/-- How many masked similarities of the slab lie at or above the middle of the interval. -/
def countMid (q : Vec F S16x256x4096 .bf16) (lo hi : Vec F S256x1 .f32) : Vec F S256x1 .f32 :=
  k0_pay20 (Scalar.ofBits .bf16 0x3F80#16) (k0_pay14 lo hi)
    (k0_pay18 (Scalar.ofBits .bf16 0x3F80#16) (k0_pay14 lo hi)
      (k0_pay16 (Scalar.ofBits .bf16 0x3F80#16) lo hi (slab q 0) (slab q 1) (slab q 2) (slab q 3)) (k0_pay17 (slab q 4))
      (slab q 5) (slab q 6) (slab q 7) (slab q 8) (slab q 9))
    (k0_pay19 (slab q 10)) (slab q 11) (slab q 12) (slab q 13) (slab q 14) (slab q 15)

/-- One pass of the search: the interval's half that holds the 256th largest entry. -/
def pass (q : Vec F S16x256x4096 .bf16) (p : Vec F S256x1 .f32 × Vec F S256x1 .f32 × Vec F S256x1 .f32) :
    Vec F S256x1 .f32 × Vec F S256x1 .f32 × Vec F S256x1 .f32 :=
  (k0_pay23 p.1 p.2.1 (k0_pay15 p.1 p.2.1) (countMid q p.1 p.2.1) (Scalar.ofBits .f32 0x43800000#32),
   k0_pay24 p.1 p.2.1 (k0_pay15 p.1 p.2.1) (countMid q p.1 p.2.1) (Scalar.ofBits .f32 0x43800000#32),
   k0_pay25 p.1 (k0_pay15 p.1 p.2.1) (countMid q p.1 p.2.1) (Scalar.ofBits .f32 0x43800000#32) p.2.2)

/-- The interval after `k` passes. -/
def passes (q : Vec F S16x256x4096 .bf16) (p : Vec F S256x1 .f32 × Vec F S256x1 .f32 × Vec F S256x1 .f32) :
    ℕ → Vec F S256x1 .f32 × Vec F S256x1 .f32 × Vec F S256x1 .f32
  | 0 => p
  | k + 1 => pass q (passes q p k)

/-- The sum of the powers of the entries at or above the upper end, slab after slab. -/
def sumHigh (q : Vec F S16x256x4096 .bf16) (hi : Vec F S256x1 .f32) : Vec F S256x1 .f32 :=
  k0_pay62 hi (k0_pay54 hi (k0_pay46 hi (k0_pay38 hi (k0_pay30 hi (slab q 0) (slab q 1)) (slab q 2) (slab q 3) (slab q 4))
    (slab q 5) (slab q 6) (slab q 7)) (slab q 8) (slab q 9) (slab q 10)) (slab q 11) (slab q 12) (slab q 13)

/-- The sum of the powers of all the entries of the first fourteen slabs. -/
def sumAll (q : Vec F S16x256x4096 .bf16) : Vec F S256x1 .f32 :=
  k0_pay63 (k0_pay55 (k0_pay47 (k0_pay39 (k0_pay31 (slab q 0) (slab q 1)) (slab q 2) (slab q 3) (slab q 4))
    (slab q 5) (slab q 6) (slab q 7)) (slab q 8) (slab q 9) (slab q 10)) (slab q 11) (slab q 12) (slab q 13)

/-- The kernel's result from the scratch that the sixteen tiles leave. -/
def endOut (x2 : Vec F S256x1 .i32) (x3 : Vec F S1x256 .i32) (z : Vec F S256x128 .f32) (q : Vec F S16x256x4096 .bf16)
    (n : Vec F S1x1 .f32) (qr : Vec F S256x256 .f32) (p : Vec F S256x1 .f32 × Vec F S256x1 .f32 × Vec F S256x1 .f32) : Vec F S1x1 .f32 :=
  k0_pay9 (k0_pay73 x2 x3)
    (k0_pay74 (k0_pay68 (sumAll q) (slab q 14) (slab q 15))
      (k0_pay69 p.1 p.2.1 p.2.2 (sumHigh q p.2.1) (slab q 14) (slab q 15))
      n (k0_pay70 x2) k0_pay71 qr z x2 x3)

/-! ## Loads of whole scratch values and of slabs -/

omit [FloatOps F] [Named F] in
/-- A load of a whole column reads its value. -/
theorem read_col {arg : Memref sig .tc .vmem S256x1 .f32} (h : arg.IsWhole) (v : Vec F S256x1 .f32)
    (inb : ∀ a, (![0, 0] : Fin 2 → ℕ) a + (![256, 1] : Fin 2 → ℕ) a ≤ S256x1.size a) :
    View.readAt (Elt F) arg.view (Rect.unit (s := S256x1) ![0, 0] ![256, 1] inb).toLoadRect (h.unread v) = v :=
  (View.readAt_full (Val := Elt F) arg.view (h.unread v) inb).trans (h.read_unread v)

omit [FloatOps F] [Named F] in
/-- A load of a whole column of labels reads its value. -/
theorem read_coli {arg : Memref sig .tc .vmem S256x1 .i32} (h : arg.IsWhole) (v : Vec F S256x1 .i32)
    (inb : ∀ a, (![0, 0] : Fin 2 → ℕ) a + (![256, 1] : Fin 2 → ℕ) a ≤ S256x1.size a) :
    View.readAt (Elt F) arg.view (Rect.unit (s := S256x1) ![0, 0] ![256, 1] inb).toLoadRect (h.unread v) = v :=
  (View.readAt_full (Val := Elt F) arg.view (h.unread v) inb).trans (h.read_unread v)

omit [FloatOps F] [Named F] in
/-- A load of a whole row of labels reads its value. -/
theorem read_row {arg : Memref sig .tc .vmem S1x256 .i32} (h : arg.IsWhole) (v : Vec F S1x256 .i32)
    (inb : ∀ a, (![0, 0] : Fin 2 → ℕ) a + (![1, 256] : Fin 2 → ℕ) a ≤ S1x256.size a) :
    View.readAt (Elt F) arg.view (Rect.unit (s := S1x256) ![0, 0] ![1, 256] inb).toLoadRect (h.unread v) = v :=
  (View.readAt_full (Val := Elt F) arg.view (h.unread v) inb).trans (h.read_unread v)

omit [FloatOps F] [Named F] in
/-- A load of a whole cell reads its value. -/
theorem read_one {arg : Memref sig .tc .vmem S1x1 .f32} (h : arg.IsWhole) (v : Vec F S1x1 .f32)
    (inb : ∀ a, (![0, 0] : Fin 2 → ℕ) a + (![1, 1] : Fin 2 → ℕ) a ≤ S1x1.size a) :
    View.readAt (Elt F) arg.view (Rect.unit (s := S1x1) ![0, 0] ![1, 1] inb).toLoadRect (h.unread v) = v :=
  (View.readAt_full (Val := Elt F) arg.view (h.unread v) inb).trans (h.read_unread v)

omit [FloatOps F] [Named F] in
/-- A load of a whole projection reads its value. -/
theorem read_proj {arg : Memref sig .tc .vmem S256x128 .f32} (h : arg.IsWhole) (v : Vec F S256x128 .f32)
    (inb : ∀ a, (![0, 0] : Fin 2 → ℕ) a + (![256, 128] : Fin 2 → ℕ) a ≤ S256x128.size a) :
    View.readAt (Elt F) arg.view (Rect.unit (s := S256x128) ![0, 0] ![256, 128] inb).toLoadRect (h.unread v) = v :=
  (View.readAt_full (Val := Elt F) arg.view (h.unread v) inb).trans (h.read_unread v)

omit [FloatOps F] [Named F] in
/-- A load of a whole square reads its value. -/
theorem read_sq {arg : Memref sig .tc .vmem S256x256 .f32} (h : arg.IsWhole) (v : Vec F S256x256 .f32)
    (inb : ∀ a, (![0, 0] : Fin 2 → ℕ) a + (![256, 256] : Fin 2 → ℕ) a ≤ S256x256.size a) :
    View.readAt (Elt F) arg.view (Rect.unit (s := S256x256) ![0, 0] ![256, 256] inb).toLoadRect (h.unread v) = v :=
  (View.readAt_full (Val := Elt F) arg.view (h.unread v) inb).trans (h.read_unread v)

omit [FloatOps F] [Named F] in
/-- A load of a whole batch of embeddings reads its value. -/
theorem read_emb {arg : Memref sig .tc .vmem S256x768 .f32} (h : arg.IsWhole) (v : Vec F S256x768 .f32)
    (inb : ∀ a, (![0, 0] : Fin 2 → ℕ) a + (![256, 768] : Fin 2 → ℕ) a ≤ S256x768.size a) :
    View.readAt (Elt F) arg.view (Rect.unit (s := S256x768) ![0, 0] ![256, 768] inb).toLoadRect (h.unread v) = v :=
  (View.readAt_full (Val := Elt F) arg.view (h.unread v) inb).trans (h.read_unread v)

omit [FloatOps F] [Named F] in
/-- A load of a whole first weight reads its value. -/
theorem read_w1 {arg : Memref sig .tc .vmem S768x768 .f32} (h : arg.IsWhole) (v : Vec F S768x768 .f32)
    (inb : ∀ a, (![0, 0] : Fin 2 → ℕ) a + (![768, 768] : Fin 2 → ℕ) a ≤ S768x768.size a) :
    View.readAt (Elt F) arg.view (Rect.unit (s := S768x768) ![0, 0] ![768, 768] inb).toLoadRect (h.unread v) = v :=
  (View.readAt_full (Val := Elt F) arg.view (h.unread v) inb).trans (h.read_unread v)

omit [FloatOps F] [Named F] in
/-- A load of a whole first bias reads its value. -/
theorem read_b1 {arg : Memref sig .tc .vmem S1x768 .f32} (h : arg.IsWhole) (v : Vec F S1x768 .f32)
    (inb : ∀ a, (![0, 0] : Fin 2 → ℕ) a + (![1, 768] : Fin 2 → ℕ) a ≤ S1x768.size a) :
    View.readAt (Elt F) arg.view (Rect.unit (s := S1x768) ![0, 0] ![1, 768] inb).toLoadRect (h.unread v) = v :=
  (View.readAt_full (Val := Elt F) arg.view (h.unread v) inb).trans (h.read_unread v)

omit [FloatOps F] [Named F] in
/-- A load of a whole second weight reads its value. -/
theorem read_w2 {arg : Memref sig .tc .vmem S768x128 .f32} (h : arg.IsWhole) (v : Vec F S768x128 .f32)
    (inb : ∀ a, (![0, 0] : Fin 2 → ℕ) a + (![768, 128] : Fin 2 → ℕ) a ≤ S768x128.size a) :
    View.readAt (Elt F) arg.view (Rect.unit (s := S768x128) ![0, 0] ![768, 128] inb).toLoadRect (h.unread v) = v :=
  (View.readAt_full (Val := Elt F) arg.view (h.unread v) inb).trans (h.read_unread v)

omit [FloatOps F] [Named F] in
/-- A load of a whole second bias reads its value. -/
theorem read_b2 {arg : Memref sig .tc .vmem S1x128 .f32} (h : arg.IsWhole) (v : Vec F S1x128 .f32)
    (inb : ∀ a, (![0, 0] : Fin 2 → ℕ) a + (![1, 128] : Fin 2 → ℕ) a ≤ S1x128.size a) :
    View.readAt (Elt F) arg.view (Rect.unit (s := S1x128) ![0, 0] ![1, 128] inb).toLoadRect (h.unread v) = v :=
  (View.readAt_full (Val := Elt F) arg.view (h.unread v) inb).trans (h.read_unread v)

omit [FloatOps F] [Named F] in
/-- A load of a whole tile of the queue reads its value. -/
theorem read_tile {arg : Memref sig .tc .vmem S4096x128 .f32} (h : arg.IsWhole) (v : Vec F S4096x128 .f32)
    (inb : ∀ a, (![0, 0] : Fin 2 → ℕ) a + (![4096, 128] : Fin 2 → ℕ) a ≤ S4096x128.size a) :
    View.readAt (Elt F) arg.view (Rect.unit (s := S4096x128) ![0, 0] ![4096, 128] inb).toLoadRect (h.unread v) = v :=
  (View.readAt_full (Val := Elt F) arg.view (h.unread v) inb).trans (h.read_unread v)

omit [FloatOps F] [Named F] in
/-- A load of a whole tile of labels reads its value. -/
theorem read_labels {arg : Memref sig .tc .vmem S1x1x4096 .i32} (h : arg.IsWhole) (v : Vec F S1x1x4096 .i32)
    (inb : ∀ a, (![0, 0, 0] : Fin 3 → ℕ) a + (![1, 1, 4096] : Fin 3 → ℕ) a ≤ S1x1x4096.size a) :
    View.readAt (Elt F) arg.view (Rect.unit (s := S1x1x4096) ![0, 0, 0] ![1, 1, 4096] inb).toLoadRect (h.unread v) = v :=
  (View.readAt_full (Val := Elt F) arg.view (h.unread v) inb).trans (h.read_unread v)

omit [Named F] in
/-- A load of a whole projection just stored reads what was stored. -/
theorem cov_proj (arg : Memref sig .tc .vmem S256x128 .f32) (w : Vec F S256x128 .f32)
    (inb inb' : ∀ a, (![0, 0] : Fin 2 → ℕ) a + (![256, 128] : Fin 2 → ℕ) a ≤ S256x128.size a) :
    arg.view.readCov (Val := Elt F) [⟨Rect.unit (s := S256x128) ![0, 0] ![256, 128] inb', w⟩] (Rect.unit (s := S256x128) ![0, 0] ![256, 128] inb).toLoadRect = w :=
  View.readCov_full (Val := Elt F) arg.view inb inb' w []

omit [Named F] in
/-- A load of a whole cell just stored reads what was stored. -/
theorem cov_one (arg : Memref sig .tc .vmem S1x1 .f32) (w : Vec F S1x1 .f32)
    (inb inb' : ∀ a, (![0, 0] : Fin 2 → ℕ) a + (![1, 1] : Fin 2 → ℕ) a ≤ S1x1.size a) :
    arg.view.readCov (Val := Elt F) [⟨Rect.unit (s := S1x1) ![0, 0] ![1, 1] inb', w⟩] (Rect.unit (s := S1x1) ![0, 0] ![1, 1] inb).toLoadRect = w :=
  View.readCov_full (Val := Elt F) arg.view inb inb' w []

omit [FloatOps F] [Named F] in
/-- A load of one slab of the masked similarities. -/
theorem read_slab {arg : Memref sig .tc .vmem S16x256x4096 .bf16} (h : arg.IsWhole) (q : Vec F S16x256x4096 .bf16) (n : ℕ)
    (inb : ∀ a, (![n, 0, 0] : Fin 3 → ℕ) a + (![1, 256, 4096] : Fin 3 → ℕ) a ≤ S16x256x4096.size a) :
    View.readAt (Elt F) arg.view (Rect.unit (s := S16x256x4096) ![n, 0, 0] ![1, 256, 4096] inb).toLoadRect (h.unread q)
      = slab q ⟨n, by have := inb 0; have h : n + 1 ≤ 16 := this; omega⟩ :=
  (View.readAt_unit (Val := Elt F) arg.view (h.unread q) inb rfl inb).trans (by rw [h.read_unread]; rfl)

/-! ## The body's branch conditions -/

/-- The point initialises. -/
abbrev condInit (i : grid0.Coords) : Prop :=
  (Scalar.cmpi .ne (Scalar.extui (Scalar.cmpi .eq (BitVec.ofNat 32 (i 0).val) 0#32)) 0#32) = 1#1
/-- The point has a tile. -/
abbrev condTile (i : grid0.Coords) : Prop := k0_cond2 i = 1#1
/-- The point finishes. -/
abbrev condEnd (i : grid0.Coords) : Prop := k0_cond4 i = 1#1

variable (c : Dev nD) (i : grid0.Coords) (arg1 : Memref sig .tc .vmem S256x768 .f32)
  (harg1 : arg1.IsWhole)
  (arg2 : Memref sig .tc .vmem S256x1 .i32)
  (harg2 : arg2.IsWhole)
  (arg3 : Memref sig .tc .vmem S1x256 .i32)
  (harg3 : arg3.IsWhole)
  (arg4 : Memref sig .tc .vmem S768x768 .f32)
  (harg4 : arg4.IsWhole)
  (arg5 : Memref sig .tc .vmem S1x768 .f32)
  (harg5 : arg5.IsWhole)
  (arg6 : Memref sig .tc .vmem S768x128 .f32)
  (harg6 : arg6.IsWhole)
  (arg7 : Memref sig .tc .vmem S1x128 .f32)
  (harg7 : arg7.IsWhole)
  (arg8 : Memref sig .tc .vmem S4096x128 .f32)
  (harg8 : arg8.IsWhole)
  (arg9 : Memref sig .tc .vmem S1x1x4096 .i32)
  (harg9 : arg9.IsWhole)
  (arg10 : Memref sig .tc .vmem S1x1 .f32)
  (harg10 : arg10.IsWhole)
  (arg11 : Memref sig .tc .vmem S256x128 .f32)
  (harg11 : arg11.IsWhole)
  (arg12 : Memref sig .tc .vmem S256x128 .f32)
  (harg12 : arg12.IsWhole)
  (arg13 : Memref sig .tc .vmem S16x256x4096 .bf16)
  (harg13 : arg13.IsWhole)
  (arg14 : Memref sig .tc .vmem S1x1 .f32)
  (harg14 : arg14.IsWhole)
  (arg15 : Memref sig .tc .vmem S256x256 .f32)
  (harg15 : arg15.IsWhole)
  (arg16 : Memref sig .tc .vmem S256x1 .f32)
  (harg16 : arg16.IsWhole)
  (arg17 : Memref sig .tc .vmem S256x1 .f32)
  (harg17 : arg17.IsWhole)
  (arg18 : Memref sig .tc .vmem S256x1 .f32)
  (harg18 : arg18.IsWhole)

/-! ## The loop of the passes -/

/-- What a pass holds: the slab, and the search interval at given contents. -/
abbrev PassOwn (q : Vec F S16x256x4096 .bf16) (p : Vec F S256x1 .f32 × Vec F S256x1 .f32 × Vec F S256x1 .f32) : sProp 𝕄 :=
  iprop((arg13.view.loc (c : Thread nD τ) ↦[arg13.view.set]{fullShare} harg13.unread q)
    ∗ (∃ f, (arg16.view.loc (c : Thread nD τ) ↦[arg16.view.set]{fullShare} f) ∗ ⌜f = harg16.unread p.1⌝)
    ∗ (∃ f, (arg17.view.loc (c : Thread nD τ) ↦[arg17.view.set]{fullShare} f) ∗ ⌜f = harg17.unread p.2.1⌝)
    ∗ (∃ f, (arg18.view.loc (c : Thread nD τ) ↦[arg18.view.set]{fullShare} f) ∗ ⌜f = harg18.unread p.2.2⌝))

set_option maxHeartbeats 8000000 in
set_option warn.classDefReducibility false in
/-- The passes by their invariant: before pass `k` the interval is the one after `k` passes. -/
@[sl_loop] def loopPasses (𝒱 : Variants) (bd : Option 𝒱.V) (E : Set ℕ) (h4 : k0_cond4 i = 1#1)
    (q : Vec F S16x256x4096 .bf16) (lo hi chi : Vec F S256x1 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h4 (Scalar.ofBits .bf16 0x3F80#16) where
  inv k _ := PassOwn (F := F) c arg13 harg13 arg16 harg16 arg17 harg17 arg18 harg18 q (passes q (lo, hi, chi) k)
  step k acc := by
    have hk : k.val < 11 := Nat.lt_of_lt_of_le k.isLt k0_t1_abs.2.1
    iintro ⟨H13, ⟨%f16, H16, %h16⟩, ⟨%f17, H17, %h17⟩, ⟨%f18, H18, %h18⟩⟩
    subst h16 h17 h18
    unfold k0_t1_body
    sl_exec
    sl_step
    isplitl [H13]; · iexact H13
    isplitl [H16]
    · iexists _; isplitl [H16]; · iexact H16
      ipureintro; refine harg16.eq_unread ?_; sl_unfold_run_names
      refine (View.read_writes_full _ _ _ _ []).trans ?_
      simp only [read_col, read_slab]; rfl
    isplitl [H17]
    · iexists _; isplitl [H17]; · iexact H17
      ipureintro; refine harg17.eq_unread ?_; sl_unfold_run_names
      refine (View.read_writes_full _ _ _ _ []).trans ?_
      simp only [read_col, read_slab]; rfl
    iexists _; isplitl [H18]; · iexact H18
    ipureintro; refine harg18.eq_unread ?_; sl_unfold_run_names
    refine (View.read_writes_full _ _ _ _ []).trans ?_
    simp only [read_col, read_slab]; rfl

end Cert.KernelIdeal.Run

end
-- ==== Proof.KernelIdeal.Cases.lean ====
module

public import proofs.«01_k».proof.Proof.Gen.KernelIdeal.Frame
public import proofs.«01_k».proof.Proof.KernelIdeal.Passes
public import Idealize.ShloMosaic.Lib.VecWindow
public import Idealize.ShloMosaic.Lib.Tactic.Stretches

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg1 : Memref sig .tc .vmem S256x768 .f32)
  (harg1 : arg1.IsWhole)
  (arg2 : Memref sig .tc .vmem S256x1 .i32)
  (harg2 : arg2.IsWhole)
  (arg3 : Memref sig .tc .vmem S1x256 .i32)
  (harg3 : arg3.IsWhole)
  (arg4 : Memref sig .tc .vmem S768x768 .f32)
  (harg4 : arg4.IsWhole)
  (arg5 : Memref sig .tc .vmem S1x768 .f32)
  (harg5 : arg5.IsWhole)
  (arg6 : Memref sig .tc .vmem S768x128 .f32)
  (harg6 : arg6.IsWhole)
  (arg7 : Memref sig .tc .vmem S1x128 .f32)
  (harg7 : arg7.IsWhole)
  (arg8 : Memref sig .tc .vmem S4096x128 .f32)
  (harg8 : arg8.IsWhole)
  (arg9 : Memref sig .tc .vmem S1x1x4096 .i32)
  (harg9 : arg9.IsWhole)
  (arg10 : Memref sig .tc .vmem S1x1 .f32)
  (harg10 : arg10.IsWhole)
  (arg11 : Memref sig .tc .vmem S256x128 .f32)
  (harg11 : arg11.IsWhole)
  (arg12 : Memref sig .tc .vmem S256x128 .f32)
  (harg12 : arg12.IsWhole)
  (arg13 : Memref sig .tc .vmem S16x256x4096 .bf16)
  (harg13 : arg13.IsWhole)
  (arg14 : Memref sig .tc .vmem S1x1 .f32)
  (harg14 : arg14.IsWhole)
  (arg15 : Memref sig .tc .vmem S256x256 .f32)
  (harg15 : arg15.IsWhole)
  (arg16 : Memref sig .tc .vmem S256x1 .f32)
  (harg16 : arg16.IsWhole)
  (arg17 : Memref sig .tc .vmem S256x1 .f32)
  (harg17 : arg17.IsWhole)
  (arg18 : Memref sig .tc .vmem S256x1 .f32)
  (harg18 : arg18.IsWhole)

/-! ## The body at its three kinds of point -/

set_option maxHeartbeats 8000000 in
/-- A tile point: the slab takes the tile, the count moves on. -/
theorem run_tile (h1 : ¬condInit i) (h2 : condTile i) (h3 : ¬condEnd i)
    (x2 : Vec F S256x1 .i32) (x8 : Vec F S4096x128 .f32) (x9 : Vec F S1x1x4096 .i32) (zq : Vec F S256x128 .f32) (q : Vec F S16x256x4096 .bf16) (n : Vec F S1x1 .f32) (E : Set ℕ) (K : PUnit → sProp 𝕄) :
    iprop(owns (c : Thread nD τ) arg2 fullShare x2 ∗ owns (c : Thread nD τ) arg8 fullShare x8 ∗ owns (c : Thread nD τ) arg9 fullShare x9 ∗ owns (c : Thread nD τ) arg12 fullShare zq ∗ owns (c : Thread nD τ) arg13 fullShare q ∗ owns (c : Thread nD τ) arg14 fullShare n
        ∗ (iprop(owns (c : Thread nD τ) arg2 fullShare x2 ∗ owns (c : Thread nD τ) arg8 fullShare x8 ∗ owns (c : Thread nD τ) arg9 fullShare x9 ∗ owns (c : Thread nD τ) arg12 fullShare zq ∗ owns (c : Thread nD τ) arg13 fullShare (VecWindow.put q ![(i 0).val, 0, 0] S1x256x4096.size (k0_pay7 zq x8 x9 x2)) ∗ owns (c : Thread nD τ) arg14 fullShare (k0_pay6 x9 n)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  unfold owns
  iintro ⟨⟨%f2, %hf2, H2⟩, ⟨%f8, %hf8, H8⟩, ⟨%f9, %hf9, H9⟩, ⟨%f12, %hf12, H12⟩, ⟨%f13, %hf13, H13⟩, ⟨%f14, %hf14, H14⟩, Hk⟩
  obtain rfl := harg2.eq_unread hf2
  obtain rfl := harg8.eq_unread hf8
  obtain rfl := harg9.eq_unread hf9
  obtain rfl := harg12.eq_unread hf12
  obtain rfl := harg13.eq_unread hf13
  obtain rfl := harg14.eq_unread hf14
  sl_exec (disch := first | sl_exact h1 | sl_exact h2 | sl_exact h3)
  sl_step
  iapply Hk
  isplitl [H2]
  · iexists _; isplitr; swap; · iexact H2
    ipureintro; exact harg2.read_unread _
  isplitl [H8]
  · iexists _; isplitr; swap; · iexact H8
    ipureintro; exact harg8.read_unread _
  isplitl [H9]
  · iexists _; isplitr; swap; · iexact H9
    ipureintro; exact harg9.read_unread _
  isplitl [H12]
  · iexists _; isplitr; swap; · iexact H12
    ipureintro; exact harg12.read_unread _
  isplitl [H13]
  · iexists _; isplitr; swap; · iexact H13
    ipureintro; rw [View.read_writes_cons_put _ _ _ _ _ (k0_off1_eq i)]; sl_unfold_run_names
    simp only [cov_proj, cov_one, read_col, read_coli, read_row, read_one, read_proj, read_sq, read_emb, read_w1, read_b1, read_w2, read_b2, read_tile, read_labels, View.writes_nil, Memref.IsWhole.read_unread]
  iexists _; isplitr; swap; · iexact H14
  ipureintro; sl_unfold_run_names
  refine (View.read_writes_full _ _ _ _ _).trans ?_
  simp only [cov_proj, cov_one, read_col, read_coli, read_row, read_one, read_proj, read_sq, read_emb, read_w1, read_b1, read_w2, read_b2, read_tile, read_labels]

set_option maxHeartbeats 8000000 in
/-- The first point: the initialisation, then its tile. -/
theorem run_first (h1 : condInit i) (h2 : condTile i) (h3 : ¬condEnd i)
    (x1 : Vec F S256x768 .f32) (x2 : Vec F S256x1 .i32) (x4 : Vec F S768x768 .f32) (x5 : Vec F S1x768 .f32) (x6 : Vec F S768x128 .f32) (x7 : Vec F S1x128 .f32) (x8 : Vec F S4096x128 .f32) (x9 : Vec F S1x1x4096 .i32) (z : Vec F S256x128 .f32) (zq : Vec F S256x128 .f32) (q : Vec F S16x256x4096 .bf16) (n : Vec F S1x1 .f32) (qr : Vec F S256x256 .f32) (lo : Vec F S256x1 .f32) (hi : Vec F S256x1 .f32) (chi : Vec F S256x1 .f32) (E : Set ℕ) (K : PUnit → sProp 𝕄) :
    iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare z ∗ owns (c : Thread nD τ) arg12 fullShare zq ∗ owns (c : Thread nD τ) arg13 fullShare q ∗ owns (c : Thread nD τ) arg14 fullShare n ∗ owns (c : Thread nD τ) arg15 fullShare qr ∗ owns (c : Thread nD τ) arg16 fullShare lo ∗ owns (c : Thread nD τ) arg17 fullShare hi ∗ owns (c : Thread nD τ) arg18 fullShare chi
        ∗ (iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (k0_pay11 x1 x4 x5 x6 x7) ∗ owns (c : Thread nD τ) arg12 fullShare (k0_pay12 x1 x4 x5 x6 x7) ∗ owns (c : Thread nD τ) arg13 fullShare (VecWindow.put q ![(i 0).val, 0, 0] S1x256x4096.size (k0_pay7 (k0_pay12 x1 x4 x5 x6 x7) x8 x9 x2)) ∗ owns (c : Thread nD τ) arg14 fullShare (k0_pay6 x9 k0_pay13) ∗ owns (c : Thread nD τ) arg15 fullShare (k0_pay8 (k0_pay12 x1 x4 x5 x6 x7) x8) ∗ owns (c : Thread nD τ) arg16 fullShare (k0_pay1 (F := F)) ∗ owns (c : Thread nD τ) arg17 fullShare (k0_pay2 (F := F)) ∗ owns (c : Thread nD τ) arg18 fullShare (k0_pay3 (F := F))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  unfold owns
  iintro ⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1
  obtain rfl := harg2.eq_unread hf2
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  sl_exec (disch := first | sl_exact h1 | sl_exact h2 | sl_exact h3)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H11]
  · iexists _; isplitr; swap; · iexact H11
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  isplitl [H12]
  · iexists _; isplitr; swap; · iexact H12
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  isplitl [H13]
  · iexists _; isplitr; swap; · iexact H13
    ipureintro; rw [View.read_writes_cons_put _ _ _ _ _ (k0_off1_eq i)]; sl_unfold_run_names
    simp only [cov_proj, cov_one, read_col, read_coli, read_row, read_one, read_proj, read_sq, read_emb, read_w1, read_b1, read_w2, read_b2, read_tile, read_labels, View.writes_nil, Memref.IsWhole.read_unread]
  isplitl [H14]
  · iexists _; isplitr; swap; · iexact H14
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  isplitl [H15]
  · iexists _; isplitr; swap; · iexact H15
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  isplitl [H16]
  · iexists _; isplitr; swap; · iexact H16
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  isplitl [H17]
  · iexists _; isplitr; swap; · iexact H17
    ipureintro; sl_unfold_run_names
    refine (View.read_writes_full _ _ _ _ _).trans ?_
    simp only [cov_proj, cov_one, read_col, read_coli, read_row, read_one, read_proj, read_sq, read_emb, read_w1, read_b1, read_w2, read_b2, read_tile, read_labels]
  iexists _; isplitr; swap; · iexact H18
  ipureintro; sl_unfold_run_names
  refine (View.read_writes_full _ _ _ _ _).trans ?_
  simp only [cov_proj, cov_one, read_col, read_coli, read_row, read_one, read_proj, read_sq, read_emb, read_w1, read_b1, read_w2, read_b2, read_tile, read_labels]

set_option maxHeartbeats 8000000 in
/-- The last point: the passes, then the result. -/
theorem run_end (h1 : ¬condInit i) (h2 : ¬condTile i) (h3 : condEnd i)
    (x2 : Vec F S256x1 .i32) (x3 : Vec F S1x256 .i32) (z : Vec F S256x128 .f32) (q : Vec F S16x256x4096 .bf16) (n : Vec F S1x1 .f32) (qr : Vec F S256x256 .f32) (lo : Vec F S256x1 .f32) (hi : Vec F S256x1 .f32) (chi : Vec F S256x1 .f32) (E : Set ℕ) (K : PUnit → sProp 𝕄) :
    iprop(owns (c : Thread nD τ) arg2 fullShare x2 ∗ owns (c : Thread nD τ) arg3 fullShare x3 ∗ (∃ d, owns (c : Thread nD τ) arg10 fullShare d) ∗ owns (c : Thread nD τ) arg11 fullShare z ∗ owns (c : Thread nD τ) arg13 fullShare q ∗ owns (c : Thread nD τ) arg14 fullShare n ∗ owns (c : Thread nD τ) arg15 fullShare qr ∗ owns (c : Thread nD τ) arg16 fullShare lo ∗ owns (c : Thread nD τ) arg17 fullShare hi ∗ owns (c : Thread nD τ) arg18 fullShare chi
        ∗ (iprop(owns (c : Thread nD τ) arg2 fullShare x2 ∗ owns (c : Thread nD τ) arg3 fullShare x3 ∗ owns (c : Thread nD τ) arg10 fullShare (endOut x2 x3 z q n qr (passes q (lo, hi, chi) 11)) ∗ owns (c : Thread nD τ) arg11 fullShare z ∗ owns (c : Thread nD τ) arg13 fullShare q ∗ owns (c : Thread nD τ) arg14 fullShare n ∗ owns (c : Thread nD τ) arg15 fullShare qr ∗ owns (c : Thread nD τ) arg16 fullShare ((passes q (lo, hi, chi) 11).1) ∗ owns (c : Thread nD τ) arg17 fullShare ((passes q (lo, hi, chi) 11).2.1) ∗ owns (c : Thread nD τ) arg18 fullShare ((passes q (lo, hi, chi) 11).2.2)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__body_eq_skeleton]; unfold cc0__body_skel
  unfold owns
  iintro ⟨⟨%f2, %hf2, H2⟩, ⟨%f3, %hf3, H3⟩, ⟨%d10, %f10, -, H10⟩, ⟨%f11, %hf11, H11⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg2.eq_unread hf2
  obtain rfl := harg3.eq_unread hf3
  obtain rfl := harg11.eq_unread hf11
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H10]
  · iexists _; isplitr; swap; · iexact H10
    ipureintro; sl_unfold_run_names
    refine (View.read_writes_full _ _ _ _ _).trans ?_
    simp only [read_slab, read_col, read_coli, read_row, read_one, read_proj, read_sq, View.read_writes_full, View.readAt_full, View.readCov_full, Memref.IsWhole.read_unread]
    rfl
  isplitl [H11]
  · iexists _; isplitr; swap; · iexact H11
    ipureintro; exact harg11.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact harg17.read_unread _
  iexists _; isplitr; swap; · iexact H18
  ipureintro; exact harg18.read_unread _

end Cert.KernelIdeal.Run

end
-- ==== Proof.KernelIdeal.State.lean ====
module

public import proofs.«01_k».proof.Proof.KernelIdeal.Cases

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch holds between the points -/

/-- The eight scratch values. -/
structure Scratch (F : FTy → Type) [FloatOps F] where
  /-- the projections -/
  z : Vec F S256x128 .f32
  /-- the scaled projections -/
  zq : Vec F S256x128 .f32
  /-- the masked similarities -/
  q : Vec F S16x256x4096 .bf16
  /-- the count of ones -/
  n : Vec F S1x1 .f32
  /-- the first similarities -/
  qr : Vec F S256x256 .f32
  /-- the lower ends -/
  lo : Vec F S256x1 .f32
  /-- the upper ends -/
  hi : Vec F S256x1 .f32
  /-- the counts above -/
  chi : Vec F S256x1 .f32

/-- The grid's point `n` (below 17). -/
def pt (n : ℕ) : Fin cfg0.N := ⟨n % 17, Nat.lt_of_lt_of_eq (Nat.mod_lt n (by decide)) N_0.symm⟩

omit [FloatOps F] [Named F] in
theorem pt_val (t : Fin cfg0.N) : pt t.val = t :=
  Fin.ext (Nat.mod_eq_of_lt (Nat.lt_of_lt_of_eq t.isLt N_0))

/-- The projections the first point computes. -/
def zOf (c : Dev nD) : Vec F S256x128 .f32 :=
  k0_pay11 (iblk m c 0 (pt 0)) (iblk m c 3 (pt 0)) (iblk m c 4 (pt 0)) (iblk m c 5 (pt 0)) (iblk m c 6 (pt 0))
/-- The scaled projections. -/
def zqOf (c : Dev nD) : Vec F S256x128 .f32 :=
  k0_pay12 (iblk m c 0 (pt 0)) (iblk m c 3 (pt 0)) (iblk m c 4 (pt 0)) (iblk m c 5 (pt 0)) (iblk m c 6 (pt 0))
/-- The masked similarities of tile `n`. -/
def tileOf (c : Dev nD) (n : ℕ) : Vec F S1x256x4096 .bf16 :=
  k0_pay7 (zqOf m c) (iblk m c 7 (pt n)) (iblk m c 8 (pt n)) (iblk m c 1 (pt n))
/-- The count of ones after `n` tiles. -/
def onesOf (c : Dev nD) : ℕ → Vec F S1x1 .f32
  | 0 => k0_pay13
  | n + 1 => k0_pay6 (iblk m c 8 (pt n)) (onesOf c n)
/-- The similarities the first point keeps for the fallback. -/
def qrawOf (c : Dev nD) : Vec F S256x256 .f32 := k0_pay8 (zqOf m c) (iblk m c 7 (pt 0))
/-- All the masked similarities, slab after slab. -/
def qOf (c : Dev nD) : Vec F S16x256x4096 .bf16 :=
  fun x => tileOf m c (x 0).val (fun a => ⟨(![0, (x 1).val, (x 2).val] : Fin 3 → ℕ) a, by
    fin_cases a
    · exact Nat.one_pos
    · exact (x 1).isLt
    · exact (x 2).isLt⟩)

/-- What the scratch holds after `n` tiles, `1 ≤ n ≤ 16`: nothing is said of it otherwise. -/
def Held (c : Dev nD) (n : ℕ) (s : Scratch F) : Prop :=
  1 ≤ n → n ≤ 16 → s.z = zOf m c ∧ s.zq = zqOf m c ∧ (∀ j : Fin 16, j.val < n → slab s.q j = tileOf m c j.val)
    ∧ s.n = onesOf m c n ∧ s.qr = qrawOf m c ∧ s.lo = k0_pay1 ∧ s.hi = k0_pay2 ∧ s.chi = k0_pay3

/-- What the kernel returns. -/
def outOf (c : Dev nD) : Vec F S1x1 .f32 :=
  endOut (iblk m c 1 (pt 16)) (iblk m c 2 (pt 16)) (zOf m c) (qOf m c) (onesOf m c 16) (qrawOf m c)
    (passes (qOf m c) (k0_pay1, k0_pay2, k0_pay3) 11)

omit [FloatOps F] [Named F] in
/-- A slab just stored reads back. -/
theorem slab_put (q : Vec F S16x256x4096 .bf16) (w : Vec F S1x256x4096 .bf16) (j : Fin 16) :
    slab (VecWindow.put q ![j.val, 0, 0] S1x256x4096.size w) j = w := by
  exact VecWindow.window_put_same q ![j.val, 0, 0] S1x256x4096.size _ w

omit [FloatOps F] [Named F] in
/-- Storing a slab leaves the others. -/
theorem slab_put_ne (q : Vec F S16x256x4096 .bf16) (w : Vec F S1x256x4096 .bf16) (n : ℕ) (j : Fin 16) (h : j.val ≠ n) :
    slab (VecWindow.put q ![n, 0, 0] S1x256x4096.size w) j = slab q j := by
  refine VecWindow.window_put_of_disjoint q ![n, 0, 0] S1x256x4096.size ![j.val, 0, 0] S1x256x4096.size _ w 0 ?_
  show j.val + 1 ≤ n ∨ n + 1 ≤ j.val
  omega

omit [FloatOps F] [Named F] in
/-- The masked similarities are determined by their slabs. -/
theorem eq_of_slabs (q q' : Vec F S16x256x4096 .bf16) (h : ∀ j, slab q j = slab q' j) : q = q' := by
  funext x
  have e : ∀ r : Vec F S16x256x4096 .bf16, slab r (x 0) (fun a => ⟨(![0, (x 1).val, (x 2).val] : Fin 3 → ℕ) a, by
      fin_cases a
      · exact Nat.one_pos
      · exact (x 1).isLt
      · exact (x 2).isLt⟩) = r x := fun r => congrArg r (funext fun a => Fin.ext (by
    fin_cases a
    · show (x 0).val + 1 * 0 = (x 0).val; omega
    · show 0 + 1 * (x 1).val = (x 1).val; omega
    · show 0 + 1 * (x 2).val = (x 2).val; omega))
  exact (e q).symm.trans ((congrFun (h (x 0)) _).trans (e q'))

/-- The slabs of the whole are the tiles. -/
theorem slab_qOf (c : Dev nD) (j : Fin 16) : slab (qOf m c) j = tileOf m c j.val := by
  funext y
  have h0 : (y 0).val = 0 := Nat.lt_one_iff.mp (y 0).isLt
  have e0 : j.val + 1 * (y 0).val = j.val := by omega
  show tileOf m c (j.val + 1 * (y 0).val) _ = _
  rw [e0]
  refine congrArg (tileOf m c j.val) (funext fun a => Fin.ext ?_)
  fin_cases a
  · exact h0.symm
  · show 0 + 1 * (y 1).val = (y 1).val; omega
  · show 0 + 1 * (y 2).val = (y 2).val; omega

/-- The first point establishes what the scratch holds. -/
theorem held_first (c : Dev nD) (s : Scratch F) :
    Held m c 1 ⟨zOf m c, zqOf m c, VecWindow.put s.q ![0, 0, 0] S1x256x4096.size (tileOf m c 0), k0_pay6 (iblk m c 8 (pt 0)) k0_pay13,
      qrawOf m c, k0_pay1, k0_pay2, k0_pay3⟩ := by
  intro _ _
  refine ⟨rfl, rfl, ?_, rfl, rfl, rfl, rfl, rfl⟩
  intro j hj
  obtain rfl : j = 0 := Fin.ext (Nat.lt_one_iff.mp hj)
  exact slab_put s.q (tileOf m c 0) 0

/-- A later tile keeps it. -/
theorem held_tile (c : Dev nD) (n : ℕ) (h1 : 1 ≤ n) (h2 : n < 16) (s : Scratch F) (h : Held m c n s) :
    Held m c (n + 1) ⟨s.z, s.zq, VecWindow.put s.q ![n, 0, 0] S1x256x4096.size
      (k0_pay7 s.zq (iblk m c 7 (pt n)) (iblk m c 8 (pt n)) (iblk m c 1 (pt n))), k0_pay6 (iblk m c 8 (pt n)) s.n, s.qr, s.lo, s.hi, s.chi⟩ := by
  intro _ _
  obtain ⟨hz, hzq, hq, hn, hqr, hlo, hhi, hchi⟩ := h h1 (le_of_lt h2)
  refine ⟨hz, hzq, ?_, ?_, hqr, hlo, hhi, hchi⟩
  · intro j hj
    show slab (VecWindow.put s.q ![n, 0, 0] S1x256x4096.size _) j = _
    rw [hzq]
    by_cases hjn : j.val = n
    · subst hjn
      exact slab_put s.q (tileOf m c j.val) j
    · rw [slab_put_ne s.q _ n j hjn]
      exact hq j (by omega)
  · show k0_pay6 (iblk m c 8 (pt n)) s.n = _
    rw [hn]; rfl

/-- At the last point the result is `outOf`. -/
theorem held_end (c : Dev nD) (s : Scratch F) (h : Held m c 16 s) :
    endOut (iblk m c 1 (pt 16)) (iblk m c 2 (pt 16)) s.z s.q s.n s.qr (passes s.q (s.lo, s.hi, s.chi) 11) = outOf m c := by
  obtain ⟨hz, hzq, hq, hn, hqr, hlo, hhi, hchi⟩ := h (by decide) (le_refl _)
  have hQ : s.q = qOf m c := eq_of_slabs _ _ fun j => (hq j j.isLt).trans (slab_qOf m c j).symm
  rw [hz, hQ, hn, hqr, hlo, hhi, hchi]; rfl

end Cert.KernelIdeal.Run

end
-- ==== Proof.KernelIdeal.Frame.lean ====
module

public import proofs.«01_k».proof.Proof.KernelIdeal.State
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the grid -/

theorem condInit_iff : ∀ t : Fin cfg0.N, condInit (grid0.coords t) ↔ t.val = 0 :=
  (fun t => by
    have ht : t.val < 17 := Nat.lt_of_lt_of_eq t.isLt N_0
    have e0 : (grid0.coords t 0).val = t.val / 1 % 17 := Pipeline.Grid.coords_val t 0 (by decide) rfl
    simp only [condInit, e0]
    word_cmp : ∀ t : Fin grid0.N, condInit (grid0.coords t) ↔ t.val = 0)
theorem condTile_iff : ∀ t : Fin cfg0.N, condTile (grid0.coords t) ↔ t.val < 16 :=
  (fun t => by
    have ht : t.val < 17 := Nat.lt_of_lt_of_eq t.isLt N_0
    have e0 : (grid0.coords t 0).val = t.val / 1 % 17 := Pipeline.Grid.coords_val t 0 (by decide) rfl
    simp only [condTile, k0_cond2, e0]
    word_cmp : ∀ t : Fin grid0.N, condTile (grid0.coords t) ↔ t.val < 16)
theorem condEnd_iff : ∀ t : Fin cfg0.N, condEnd (grid0.coords t) ↔ t.val = 16 :=
  (fun t => by
    have ht : t.val < 17 := Nat.lt_of_lt_of_eq t.isLt N_0
    have e0 : (grid0.coords t 0).val = t.val / 1 % 17 := Pipeline.Grid.coords_val t 0 (by decide) rfl
    simp only [condEnd, k0_cond4, e0]
    word_cmp : ∀ t : Fin grid0.N, condEnd (grid0.coords t) ↔ t.val = 16)
theorem coord_val : ∀ t : Fin cfg0.N, (grid0.coords t 0).val = t.val :=
  (fun t => by
    have ht : t.val < 17 := Nat.lt_of_lt_of_eq t.isLt N_0
    have e0 : (grid0.coords t 0).val = t.val / 1 % 17 := Pipeline.Grid.coords_val t 0 (by decide) rfl
    rw [e0]; omega : ∀ t : Fin grid0.N, (grid0.coords t 0).val = t.val)

/-- The output is left alone until the last point, -/
theorem idle9 : ∀ t : Fin cfg0.N, ¬condEnd (grid0.coords t) → cfg0.idle 9 (grid0.coords t) = true := by decide +kernel
theorem noFlush9 : ∀ t : Fin cfg0.N, ¬condEnd (grid0.coords t) → (cfg0.win 9).flush t = false := by decide +kernel
/-- which stores it. -/
theorem live9 : ∀ t : Fin cfg0.N, condEnd (grid0.coords t) → cfg0.idle 9 (grid0.coords t) = false := by decide +kernel

/-! ## The memrefs the body is called with -/

abbrev ms0 (t : Fin cfg0.N) : Memref sig .tc .vmem S256x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4096 .i32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1 .f32 := win0_9.stage (cfg0.slots t 9)
abbrev hs9 (t : Fin cfg0.N) : (ms9 t).IsWhole := hstage0_9 ((cfg0.slots t 9).cast nbuf0_9)
abbrev sc0 : Memref sig .tc .vmem S256x128 .f32 := Memref.whole cc0_scratch0
abbrev sc1 : Memref sig .tc .vmem S256x128 .f32 := Memref.whole cc0_scratch1
abbrev sc2 : Memref sig .tc .vmem S16x256x4096 .bf16 := Memref.whole cc0_scratch2
abbrev sc3 : Memref sig .tc .vmem S1x1 .f32 := Memref.whole cc0_scratch3
abbrev sc4 : Memref sig .tc .vmem S256x256 .f32 := Memref.whole cc0_scratch4
abbrev sc5 : Memref sig .tc .vmem S256x1 .f32 := Memref.whole cc0_scratch5
abbrev sc6 : Memref sig .tc .vmem S256x1 .f32 := Memref.whole cc0_scratch6
abbrev sc7 : Memref sig .tc .vmem S256x1 .f32 := Memref.whole cc0_scratch7

/-- The region's own invariant: each scratch at some value, and the generator register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA
  rw [scopedRest0_eq]
  simp only [sc0, sc1, sc2, sc3, sc4, sc5, sc6, sc7, owns_whole]
  try rfl

/-- The scratch at given values. -/
def ScratchOwn (c : Dev nD) (s : Scratch F) : sProp 𝕄 :=
  iprop(owns (c : Thread nD τ) sc0 fullShare s.z ∗ owns (c : Thread nD τ) sc1 fullShare s.zq ∗ owns (c : Thread nD τ) sc2 fullShare s.q ∗ owns (c : Thread nD τ) sc3 fullShare s.n ∗ owns (c : Thread nD τ) sc4 fullShare s.qr ∗ owns (c : Thread nD τ) sc5 fullShare s.lo ∗ owns (c : Thread nD τ) sc6 fullShare s.hi ∗ owns (c : Thread nD τ) sc7 fullShare s.chi)

/-- Between the points: the scratch at values that `Held` describes. -/
def PhiS (c : Dev nD) (n : ℕ) (_ : n ≤ cfg0.N) : sProp 𝕄 :=
  iprop((∃ s, ⌜Held m c n s⌝ ∗ ScratchOwn c s) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outOf m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]
theorem leaves4 (c : Dev nD) (t : Fin cfg0.N) :
    (dats m 0 c).leavesExact 4 t = owns (c : Thread nD τ) (ms4 t) fullShare (iblk m c 4 t) := by
  rw [← after4 m c t]
theorem leaves5 (c : Dev nD) (t : Fin cfg0.N) :
    (dats m 0 c).leavesExact 5 t = owns (c : Thread nD τ) (ms5 t) fullShare (iblk m c 5 t) := by
  rw [← after5 m c t]
theorem leaves6 (c : Dev nD) (t : Fin cfg0.N) :
    (dats m 0 c).leavesExact 6 t = owns (c : Thread nD τ) (ms6 t) fullShare (iblk m c 6 t) := by
  rw [← after6 m c t]
theorem leaves7 (c : Dev nD) (t : Fin cfg0.N) :
    (dats m 0 c).leavesExact 7 t = owns (c : Thread nD τ) (ms7 t) fullShare (iblk m c 7 t) := by
  rw [← after7 m c t]
theorem leaves8 (c : Dev nD) (t : Fin cfg0.N) :
    (dats m 0 c).leavesExact 8 t = owns (c : Thread nD τ) (ms8 t) fullShare (iblk m c 8 t) := by
  rw [← after8 m c t]
theorem leaves9 (c : Dev nD) (t : Fin cfg0.N) (h : condEnd (grid0.coords t)) :
    (dats m 0 c).leavesExact 9 t = owns (c : Thread nD τ) (ms9 t) fullShare (outOf m c) := by
  rw [← after9 m c t]; unfold Dat.leavesExact; rw [live9 t h]

/-! ## The body obligation -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  have h1 : condInit (grid0.coords t) := (condInit_iff t).mpr ht
  have h2 : condTile (grid0.coords t) := (condTile_iff t).mpr (by omega)
  have h3 : ¬condEnd (grid0.coords t) := fun h => by have := (condEnd_iff t).mp h; omega
  have hp : pt 0 = t := by rw [← ht]; exact pt_val t
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_castSucc]
  rw [leaves0, leaves1, leaves2, leaves3, leaves4, leaves5, leaves6, leaves7, leaves8]
  rw [Dat.leavesExact_idle (dats m 0 c) 9 t (idle9 t h3) (noFlush9 t h3)]
  unfold PhiS ScratchOwn
  rw [← hp]
  iintro ⟨⟨⟨%s, %hs, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first c (grid0.coords (pt 0)) _ (hs0 (pt 0)) _ (hs1 (pt 0)) _ (hs2 (pt 0)) _ (hs3 (pt 0)) _ (hs4 (pt 0)) _ (hs5 (pt 0)) _ (hs6 (pt 0)) _ (hs7 (pt 0)) _ (hs8 (pt 0)) _ (hs9 (pt 0)) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) (hp ▸ h1) (hp ▸ h2) (hp ▸ h3) (iblk m c 0 (pt 0)) (iblk m c 1 (pt 0)) (iblk m c 3 (pt 0)) (iblk m c 4 (pt 0)) (iblk m c 5 (pt 0)) (iblk m c 6 (pt 0)) (iblk m c 7 (pt 0)) (iblk m c 8 (pt 0)) s.z s.zq s.q s.n s.qr s.lo s.hi s.chi Set.univ _)
  isplitl [H0]; · iexact H0
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H3, H4, H5, H6, H7, H8, S0, S1, S2, S3, S4, S5, S6, S7⟩
  isplitl [S0 S1 S2 S3 S4 S5 S6 S7 Hg]
  · isplitl [S0 S1 S2 S3 S4 S5 S6 S7]
    · iexists (⟨zOf m c, zqOf m c, VecWindow.put s.q ![(grid0.coords (pt 0) 0).val, 0, 0] S1x256x4096.size (tileOf m c 0), k0_pay6 (iblk m c 8 (pt 0)) k0_pay13, qrawOf m c, k0_pay1, k0_pay2, k0_pay3⟩ : Scratch F); isplitr
      · ipureintro; rw [coord_val]; exact held_first m c s
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4800000 in
/-- The body at a later tile. -/
theorem sound_tile (c : Dev nD) (t : Fin cfg0.N) (h0 : t.val ≠ 0) (ht : t.val < 16) :
    bodyPre m c t ⊢ wp frame (wpE (defs₀ (F := F)) Variants.none c none) Set.univ (bodyAt0 t) (fun _ => bodyPost m c t) := by
  have h1 : ¬condInit (grid0.coords t) := fun h => h0 ((condInit_iff t).mp h)
  have h2 : condTile (grid0.coords t) := (condTile_iff t).mpr ht
  have h3 : ¬condEnd (grid0.coords t) := fun h => by have := (condEnd_iff t).mp h; omega
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_castSucc]
  rw [leaves0, leaves1, leaves2, leaves3, leaves4, leaves5, leaves6, leaves7, leaves8]
  rw [Dat.leavesExact_idle (dats m 0 c) 9 t (idle9 t h3) (noFlush9 t h3)]
  unfold PhiS ScratchOwn
  iintro ⟨⟨⟨%s, %hs, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_tile c (grid0.coords t) _ (hs0 t) _ (hs1 t) _ (hs2 t) _ (hs3 t) _ (hs4 t) _ (hs5 t) _ (hs6 t) _ (hs7 t) _ (hs8 t) _ (hs9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) h1 h2 h3 (iblk m c 1 t) (iblk m c 7 t) (iblk m c 8 t) s.zq s.q s.n Set.univ _)
  isplitl [H1]; · iexact H1
  isplitl [H7]; · iexact H7
  isplitl [H8]; · iexact H8
  isplitl [S1]; · iexact S1
  isplitl [S2]; · iexact S2
  isplitl [S3]; · iexact S3
  iintro ⟨H1, H7, H8, S1, S2, S3⟩
  isplitl [S0 S1 S2 S3 S4 S5 S6 S7 Hg]
  · isplitl [S0 S1 S2 S3 S4 S5 S6 S7]
    · iexists (⟨s.z, s.zq, VecWindow.put s.q ![(grid0.coords t 0).val, 0, 0] S1x256x4096.size (k0_pay7 s.zq (iblk m c 7 t) (iblk m c 8 t) (iblk m c 1 t)), k0_pay6 (iblk m c 8 t) s.n, s.qr, s.lo, s.hi, s.chi⟩ : Scratch F); isplitr
      · ipureintro; rw [coord_val]; have := held_tile m c t.val (by omega) ht s hs; rw [pt_val] at this; exact this
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4800000 in
/-- The body at the last point. -/
theorem sound_end (c : Dev nD) (t : Fin cfg0.N) (ht : t.val = 16) :
    bodyPre m c t ⊢ wp frame (wpE (defs₀ (F := F)) Variants.none c none) Set.univ (bodyAt0 t) (fun _ => bodyPost m c t) := by
  have h1 : ¬condInit (grid0.coords t) := fun h => by have := (condInit_iff t).mp h; omega
  have h2 : ¬condTile (grid0.coords t) := fun h => by have := (condTile_iff t).mp h; omega
  have h3 : condEnd (grid0.coords t) := (condEnd_iff t).mpr ht
  have hp : pt 16 = t := by rw [← ht]; exact pt_val t
  unfold bodyPre bodyPost bodyAt0
  simp only [before0, before1, before2, before3, before4, before5, before6, before7, before8]
  rw [show (dats m 0 c).owesAt () t.succ = (dats m 0 c).owesAt () t.castSucc from rfl]
  rw [show (dats m 0 c).Φ t.succ = PhiS m c (t.val + 1) t.isLt from rfl, PhiS_castSucc]
  rw [leaves0, leaves1, leaves2, leaves3, leaves4, leaves5, leaves6, leaves7, leaves8]
  rw [leaves9 m c t h3]
  unfold PhiS ScratchOwn
  iintro ⟨⟨⟨%s, %hs, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [ht] at hs
  rw [← held_end m c s hs, hp]
  iapply (run_end c (grid0.coords t) _ (hs0 t) _ (hs1 t) _ (hs2 t) _ (hs3 t) _ (hs4 t) _ (hs5 t) _ (hs6 t) _ (hs7 t) _ (hs8 t) _ (hs9 t) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) h1 h2 h3 (iblk m c 1 t) (iblk m c 2 t) s.z s.q s.n s.qr s.lo s.hi s.chi Set.univ _)
  isplitl [H1]; · iexact H1
  isplitl [H2]; · iexact H2
  isplitl [H9]; · iexists _; iexact H9
  isplitl [S0]; · iexact S0
  isplitl [S2]; · iexact S2
  isplitl [S3]; · iexact S3
  isplitl [S4]; · iexact S4
  isplitl [S5]; · iexact S5
  isplitl [S6]; · iexact S6
  isplitl [S7]; · iexact S7
  iintro ⟨H1, H2, H9, S0, S2, S3, S4, S5, S6, S7⟩
  isplitl [S0 S1 S2 S3 S4 S5 S6 S7 Hg]
  · isplitl [S0 S1 S2 S3 S4 S5 S6 S7]
    · iexists (⟨s.z, s.zq, s.q, s.n, s.qr, (passes s.q (s.lo, s.hi, s.chi) 11).1, (passes s.q (s.lo, s.hi, s.chi) 11).2.1, (passes s.q (s.lo, s.hi, s.chi) 11).2.2⟩ : Scratch F); isplitr
      · ipureintro; intro _ h; omega
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 17 := Nat.lt_of_lt_of_eq t.isLt N_0
  by_cases h0 : t.val = 0
  · exact sound_first m c t h0
  · by_cases h1 : t.val < 16
    · exact sound_tile m c t h0 h1
    · exact sound_end m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch. -/
theorem hin (c : Dev nD) : Pipeline.ΦA spec0 c ⊢ (dats m 0 c).Φ 0 := by
  rw [show (dats m 0 c).Φ 0 = PhiS m c 0 (Nat.zero_le _) from rfl, PhiA_eq]
  unfold PhiS ScratchOwn
  iintro ⟨⟨⟨%x0, S0⟩, ⟨%x1, S1⟩, ⟨%x2, S2⟩, ⟨%x3, S3⟩, ⟨%x4, S4⟩, ⟨%x5, S5⟩, ⟨%x6, S6⟩, ⟨%x7, S7⟩⟩, Hg⟩
  isplitl [S0 S1 S2 S3 S4 S5 S6 S7]
  · iexists (⟨x0, x1, x2, x3, x4, x5, x6, x7⟩ : Scratch F); isplitr
    · ipureintro; intro h; omega
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS ScratchOwn
  iintro ⟨⟨%s, %hs, S0, S1, S2, S3, S4, S5, S6, S7⟩, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

/-! ## The run and the frame -/

set_option backward.isDefEq.respectTransparency.types false in
set_option maxHeartbeats 800000 in
/-- The run: every array ends at what the proof data say, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end as they were and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Frames.lean ====
/- The claims that say nothing of the result's value: the three frames and the named constants. -/
module

public import proofs.«01_k».proof.Defs
public import proofs.«01_k».proof.Proof.Gen.Pre_drawn
public import proofs.«01_k».proof.Proof.Gen.ReferenceIdeal.Run
public import proofs.«01_k».proof.Proof.Kernel.Frame
public import proofs.«01_k».proof.Proof.KernelIdeal.Frame
public import Idealize.ShloMosaic.Lib.Quiescent

@[expose] public section

noncomputable section

namespace Cert.Proof

open Idealize.ShloMosaic Idealize.SL.Sem

/-- The kernel as printed runs, keeps its arguments and ends with every counter at zero. -/
theorem frame_kernel : Cert.quiescent_Kernel := fun m ρ _ => Cert.Kernel.Run.frame m ρ

/-- So does the idealized kernel, -/
theorem frame_ideal : Cert.quiescent_KernelIdeal := fun m ρ _ => Cert.KernelIdeal.Run.frame m ρ

/-- under the value claim's precondition too. -/
theorem frame_ideal_drawn : Cert.quiescent_KernelIdeal_pre_drawn := fun m ρ _ => Cert.KernelIdeal.Run.frame m ρ

/-- So does the reference, which has no counters, -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- under the precondition too. -/
theorem frame_reference_drawn : Cert.quiescent_ReferenceIdeal_pre_drawn := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Each named constant of the kernel has its named value. -/
theorem constants : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.KernelIdeal.Blocks.lean ====
/- What the kernel's windows hold, in terms of the arguments. -/
module

public import proofs.«01_k».proof.Proof.KernelIdeal.Frame
public import Idealize.ShloMosaic.Lib.Pipeline.ValueKit

@[expose] public section

set_option maxRecDepth 16384

noncomputable section

namespace Cert.KernelIdeal.Blocks

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ)

/-- Where the windows stand: the queue's two move tile by tile, the others stay. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![min t.val 15, 0]
    ∧ win0_8.index t = ![min t.val 15, 0, 0] ∧ win0_9.index t = ![0, 0] :=
  (by decide +kernel : ∀ t : Fin grid0.N, _)

theorem block0 (c : Dev nD) (t : Fin cfg0.N) (r : Fin 256) (l : Fin 768) :
    iblk m c 0 t (ix2 r l) = m ((c : Thread nD τ).loc main_arg0) (ix2 r l) := by blk_ext [iblk, V, idx t]
theorem block3 (c : Dev nD) (t : Fin cfg0.N) (r : Fin 768) (l : Fin 768) :
    iblk m c 3 t (ix2 r l) = m ((c : Thread nD τ).loc main_arg2) (ix2 r l) := by blk_ext [iblk, V, idx t]
theorem block5 (c : Dev nD) (t : Fin cfg0.N) (r : Fin 768) (l : Fin 128) :
    iblk m c 5 t (ix2 r l) = m ((c : Thread nD τ).loc main_arg4) (ix2 r l) := by blk_ext [iblk, V, idx t]

/-- A tile of the queue. -/
theorem block7 (c : Dev nD) (n : Fin 16) (l : Fin 4096) (d : Fin 128) (j : Fin 65536) (hj : j.val = l.val + 4096 * n.val) :
    iblk m c 7 (pt n.val) (ix2 l d) = m ((c : Thread nD τ).loc main_arg6) (ix2 j d) := by
  have hn : (pt n.val).val = n.val := Nat.mod_eq_of_lt (by omega)
  blk_ext [iblk, V, idx (pt n.val), hn]

theorem array1 (c : Dev nD) (r : Fin 256) : V m c main_v0 (ix2 r 0) = m ((c : Thread nD τ).loc main_arg1) (ix1 r) := by
  show StableHlo.after hostOps0 _ _ _ = _
  simp only [hostOps0]
  after_results_simp
  pointwise
theorem array2 (c : Dev nD) (r : Fin 256) : V m c main_v1 (ix2 0 r) = m ((c : Thread nD τ).loc main_arg1) (ix1 r) := by
  show StableHlo.after hostOps0 _ _ _ = _
  simp only [hostOps0]
  after_results_simp
  pointwise
theorem array4 (c : Dev nD) (k : Fin 768) : V m c main_v2 (ix2 0 k) = m ((c : Thread nD τ).loc main_arg3) (ix1 k) := by
  show StableHlo.after hostOps0 _ _ _ = _
  simp only [hostOps0]
  after_results_simp
  pointwise
theorem array6 (c : Dev nD) (d : Fin 128) : V m c main_v3 (ix2 0 d) = m ((c : Thread nD τ).loc main_arg5) (ix1 d) := by
  show StableHlo.after hostOps0 _ _ _ = _
  simp only [hostOps0]
  after_results_simp
  pointwise
theorem array8 (c : Dev nD) (n : Fin 16) (l : Fin 4096) (j : Fin 65536) (hj : j.val = l.val + 4096 * n.val) :
    V m c main_v4 (ix3 n 0 l) = m ((c : Thread nD τ).loc main_arg7) (ix1 j) := by
  show StableHlo.after hostOps0 _ _ _ = _
  simp only [hostOps0]
  after_results_simp
  pointwise
  exact congrArg (fun i => m ((c : Thread nD τ).loc main_arg7) (ix1 i)) (Fin.ext (by rw [hj]; show n.val * 4096 + l.val = _; omega))

theorem block1 (c : Dev nD) (t : Fin cfg0.N) (r : Fin 256) :
    iblk m c 1 t (ix2 r 0) = m ((c : Thread nD τ).loc main_arg1) (ix1 r) := by
  rw [← array1 m c r]
  blk_ext [iblk, idx t]

theorem block2 (c : Dev nD) (t : Fin cfg0.N) (r : Fin 256) :
    iblk m c 2 t (ix2 0 r) = m ((c : Thread nD τ).loc main_arg1) (ix1 r) := by
  rw [← array2 m c r]
  blk_ext [iblk, idx t]
theorem block4 (c : Dev nD) (t : Fin cfg0.N) (k : Fin 768) :
    iblk m c 4 t (ix2 0 k) = m ((c : Thread nD τ).loc main_arg3) (ix1 k) := by
  rw [← array4 m c k]
  blk_ext [iblk, idx t]
theorem block6 (c : Dev nD) (t : Fin cfg0.N) (d : Fin 128) :
    iblk m c 6 t (ix2 0 d) = m ((c : Thread nD τ).loc main_arg5) (ix1 d) := by
  rw [← array6 m c d]
  blk_ext [iblk, idx t]

/-- A tile of the queue's labels. -/
theorem block8 (c : Dev nD) (n : Fin 16) (l : Fin 4096) (j : Fin 65536) (hj : j.val = l.val + 4096 * n.val) :
    iblk m c 8 (pt n.val) (ix3 0 0 l) = m ((c : Thread nD τ).loc main_arg7) (ix1 j) := by
  have hn : (pt n.val).val = n.val := Nat.mod_eq_of_lt (by omega)
  rw [← array8 m c n l j hj]
  blk_ext [iblk, idx (pt n.val), hn]

/-- The output array ends as the last point leaves it. -/
theorem final (c : Dev nD) : (dats m 0 c).arrAt 9 (cfgs 0).N = outOf m c := by
  refine (dats m 0 c).arrAt_eq_of_after_last 9 (pt 16) (by decide +kernel) _ fun j => ?_
  rw [after9]
  blk_simp
  rfl

end Cert.KernelIdeal.Blocks
-- ==== Proof.Model.lean ====
module

public import Idealize.ShloMosaic.PureOps.Ideal

@[expose] public section

noncomputable section

namespace Cert.Model

open Idealize.ShloMosaic

/-- The two-layer projection, before it is normalized. -/
def proj (x : Fin 256 → Fin 768 → EReal) (w1 : Fin 768 → Fin 768 → EReal) (b1 : Fin 768 → EReal) (w2 : Fin 768 → Fin 128 → EReal)
    (b2 : Fin 128 → EReal) (r : Fin 256) (d : Fin 128) : EReal :=
  ∑ k, max (∑ l, x r l * w1 l k + b1 k) 0 * w2 k d + b2 d

/-- The rows of `p` over their norms (or over a small number, where the norm is smaller). -/
def unit (p : Fin 256 → Fin 128 → EReal) (r : Fin 256) (d : Fin 128) : EReal :=
  Ideal.div (p r d) (max (Ideal.sqrt (∑ e, p r e * p r e)) (Ideal.ofBits .f32 0x2B8CBCCC#32))

/-- How many of `v` lie at or above `x`. -/
def atLeast {ι : Type} [Fintype ι] (v : ι → EReal) (x : EReal) : EReal := ∑ i, if x ≤ v i then 1 else 0

/-- The middle of the interval. -/
def mid (lo hi : EReal) : EReal := Ideal.ofBits .f32 0x3F000000#32 * (lo + hi)

/-- One pass of the search on one row. -/
def step {ι : Type} [Fintype ι] (v : ι → EReal) (p : EReal × EReal × EReal) : EReal × EReal × EReal :=
  let x := mid p.1 p.2.1
  let n := atLeast v x
  (if Ideal.ofBits .f32 0x43800000#32 ≤ n ∧ ¬ p.2.1 ≤ x then x else p.1,
   if ¬ Ideal.ofBits .f32 0x43800000#32 ≤ n ∧ ¬ x ≤ p.1 then x else p.2.1,
   if ¬ Ideal.ofBits .f32 0x43800000#32 ≤ n ∧ ¬ x ≤ p.1 then n else p.2.2)

/-- The choice among the three sums of a row. -/
def chosen (o fb all high : EReal) : EReal :=
  if o = 0 then fb else if o ≤ Ideal.ofBits .f32 0x43800000#32 then all else high

end Cert.Model
-- ==== Proof.KernelIdeal.Rows.lean ====
/- What the kernel's operations compute, entry by entry. -/
module

public import proofs.«01_k».proof.Proof.KernelIdeal.Passes
public import proofs.«01_k».proof.Proof.Model
public import Idealize.ShloMosaic.Lib.Pointwise

@[expose] public section

set_option maxRecDepth 16384

noncomputable section

namespace Cert.KernelIdeal.Rows

open Cert Cert.Model Cert.KernelIdeal Cert.KernelIdeal.Gen Cert.KernelIdeal.Run
open Idealize.ShloMosaic Idealize.ShloMosaic.TcCoe Idealize.SL.Sem

/-- Entry `(r, l)` of slab `j`. -/
theorem slab_at (q : Vec Ideal S16x256x4096 .bf16) (j : Fin 16) (r : Fin 256) (l : Fin 4096) :
    slab q j (ix3 0 r l) = q (ix3 j r l) := by
  unfold slab VecWindow.window
  refine congrArg q (funext fun a => ?_)
  fin_cases a <;> apply Fin.ext <;> simp [ix3]

/-- Sixteen terms, one after the other. -/
theorem sum16 (f : Fin 16 → EReal) :
    ∑ j, f j = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- Row `r`'s entries of the masked similarities, all sixteen slabs of them. -/
def row (q : Vec Ideal S16x256x4096 .bf16) (r : Fin 256) (i : Fin 16 × Fin 4096) : EReal := q (ix3 i.1 r i.2)

/-- A sum over the slabs of the rows' sums is the sum over the row. -/
theorem sum_slabs (f : Fin 16 → Fin 4096 → EReal) : ∑ i : Fin 16 × Fin 4096, f i.1 i.2 = ∑ j, ∑ l, f j l :=
  Fintype.sum_prod_type _

theorem ite_succ (c : Prop) [Decidable c] (a : EReal) : (if c then a + 1 else a) = a + if c then 1 else 0 := by
  split <;> simp

/-- The counting pass, read at a row. -/
theorem countMid_at (q : Vec Ideal S16x256x4096 .bf16) (lo hi : Vec Ideal S256x1 .f32) (r : Fin 256) :
    countMid q lo hi (ix2 r 0) = atLeast (row q r) (mid (lo (ix2 r 0)) (hi (ix2 r 0))) := by
  pointwise [countMid, k0_pay20, k0_pay18, k0_pay16, k0_pay14, k0_pay17, k0_pay19, slab_at]
  simp only [ite_succ]
  unfold atLeast row
  rw [sum_slabs (fun j l => if mid (lo (ix2 r 0)) (hi (ix2 r 0)) ≤ q (ix3 j r l) then 1 else 0), Finset.sum_comm]
  refine Finset.sum_congr rfl fun l _ => ?_
  rw [sum16]
  rfl

/-- A row of the three columns that the search carries. -/
def at3 (p : Vec Ideal S256x1 .f32 × Vec Ideal S256x1 .f32 × Vec Ideal S256x1 .f32) (r : Fin 256) : EReal × EReal × EReal :=
  (p.1 (ix2 r 0), p.2.1 (ix2 r 0), p.2.2 (ix2 r 0))

theorem select_and_not {α : Type} (a b : Prop) [Decidable a] [Decidable b] (x y : α) :
    Scalar.select (IntOp.andi (BitVec.ofBool (decide a)) (IntOp.xori (BitVec.ofBool (decide b)) 1#1)) x y = if a ∧ ¬ b then x else y := by
  by_cases ha : a <;> by_cases hb : b <;> simp [ha, hb, Scalar.select, IntOp.andi, IntOp.xori]

theorem select_not_and_not {α : Type} (a b : Prop) [Decidable a] [Decidable b] (x y : α) :
    Scalar.select (IntOp.andi (IntOp.xori (BitVec.ofBool (decide a)) 1#1) (IntOp.xori (BitVec.ofBool (decide b)) 1#1)) x y
      = if ¬ a ∧ ¬ b then x else y := by
  by_cases ha : a <;> by_cases hb : b <;> simp [ha, hb, Scalar.select, IntOp.andi, IntOp.xori]

/-- A pass, read at a row. -/
theorem pass_at (q : Vec Ideal S16x256x4096 .bf16) (p : Vec Ideal S256x1 .f32 × Vec Ideal S256x1 .f32 × Vec Ideal S256x1 .f32) (r : Fin 256) :
    at3 (pass q p) r = step (row q r) (at3 p r) := by
  unfold at3 pass step
  refine Prod.ext ?_ (Prod.ext ?_ ?_)
  · pointwise [k0_pay23, k0_pay21, k0_pay22, k0_pay15, k0_pay14, countMid_at]
    exact select_and_not _ _ _ _
  · pointwise [k0_pay24, k0_pay21, k0_pay22, k0_pay15, k0_pay14, countMid_at]
    exact select_not_and_not _ _ _ _
  · pointwise [k0_pay25, k0_pay21, k0_pay22, k0_pay15, k0_pay14, countMid_at]
    exact select_not_and_not _ _ _ _

/-- All the passes, read at a row. -/
theorem passes_at (q : Vec Ideal S16x256x4096 .bf16) (p : Vec Ideal S256x1 .f32 × Vec Ideal S256x1 .f32 × Vec Ideal S256x1 .f32) (r : Fin 256)
    (k : ℕ) : at3 (passes q p k) r = (step (row q r))^[k] (at3 p r) := by
  induction k with
  | zero => rfl
  | succ k ih => rw [Function.iterate_succ_apply', ← ih, ← pass_at]; rfl

/-- The interval before the first pass. -/
theorem start_at (r : Fin 256) :
    at3 (k0_pay1 (F := Ideal), k0_pay2 (F := Ideal), k0_pay3 (F := Ideal)) r
      = (((-((51 / 50) * ((7 / 100) * (Real.log 2))⁻¹) : ℝ) : EReal), (((51 / 50) * ((7 / 100) * (Real.log 2))⁻¹ : ℝ) : EReal), 0) := by
  unfold at3
  refine Prod.ext ?_ (Prod.ext ?_ ?_)
  · pointwise [k0_pay1]
    rfl
  · pointwise [k0_pay2]
    rfl
  · pointwise [k0_pay3]

/-- The powers of the entries at or above the upper end, with the shortfall at the lower end. -/
theorem high_at (q : Vec Ideal S16x256x4096 .bf16) (p : Vec Ideal S256x1 .f32 × Vec Ideal S256x1 .f32 × Vec Ideal S256x1 .f32) (r : Fin 256) :
    k0_pay69 p.1 p.2.1 p.2.2 (sumHigh q p.2.1) (slab q 14) (slab q 15) (ix2 r 0)
      = (∑ i, if p.2.1 (ix2 r 0) ≤ row q r i then Ideal.exp2 (row q r i) else 0)
        + max (Ideal.ofBits .f32 0x43800000#32 - p.2.2 (ix2 r 0)) 0 * Ideal.exp2 (p.1 (ix2 r 0)) := by
  pointwise [k0_pay69, sumHigh, k0_pay26, k0_pay27, k0_pay28, k0_pay29,k0_pay30, k0_pay62, k0_pay54, k0_pay46, k0_pay38, slab_at,
    k0_pay32, k0_pay33, k0_pay34, k0_pay35, k0_pay36, k0_pay37, k0_pay40, k0_pay41, k0_pay42, k0_pay43, k0_pay44, k0_pay45,
    k0_pay48, k0_pay49, k0_pay50, k0_pay51, k0_pay52, k0_pay53, k0_pay56, k0_pay57, k0_pay58, k0_pay59, k0_pay60, k0_pay61,
    k0_pay64, k0_pay65, k0_pay66, k0_pay67]
  unfold row
  rw [sum_slabs (fun j l => if p.2.1 (ix2 r 0) ≤ q (ix3 j r l) then Ideal.exp2 (q (ix3 j r l)) else 0), sum16]
  rfl

/-- The powers of all the entries. -/
theorem all_at (q : Vec Ideal S16x256x4096 .bf16) (r : Fin 256) :
    k0_pay68 (sumAll q) (slab q 14) (slab q 15) (ix2 r 0) = ∑ i, Ideal.exp2 (row q r i) := by
  pointwise [k0_pay68, sumAll, k0_pay26, k0_pay27, k0_pay28, k0_pay29,k0_pay31, k0_pay63, k0_pay55, k0_pay47, k0_pay39, slab_at,
    k0_pay32, k0_pay33, k0_pay34, k0_pay35, k0_pay36, k0_pay37, k0_pay40, k0_pay41, k0_pay42, k0_pay43, k0_pay44, k0_pay45,
    k0_pay48, k0_pay49, k0_pay50, k0_pay51, k0_pay52, k0_pay53, k0_pay56, k0_pay57, k0_pay58, k0_pay59, k0_pay60, k0_pay61,
    k0_pay64, k0_pay65, k0_pay66, k0_pay67]
  unfold row
  rw [sum_slabs (fun j l => Ideal.exp2 (q (ix3 j r l))), sum16]
  rfl

/-- A similarity of the batch, over the temperature. -/
def sim (z : Vec Ideal S256x128 .f32) (r c : Fin 256) : EReal :=
  (∑ x, (show EReal from z (ix2 r x)) * z (ix2 c x)) * (((7 / 100 : ℝ)⁻¹ : ℝ) : EReal)

/-- How many of the queue's entries have the other label, from the count `n` of the ones. -/
def others (x2 : Vec Ideal S256x1 .i32) (n : EReal) (r : Fin 256) : EReal :=
  if x2 (ix2 r 0) = 0#32 then n else Ideal.ofBits .f32 0x47800000#32 - n

/-- The test for equal words. -/
theorem cmpi_eq {w : ℕ} (a b : BitVec w) : IntOp.cmpi .eq a b = if a = b then 1#1 else 0#1 := by
  by_cases h : a = b
  · simp [h, IntOp.cmpi]
  · have : (a == b) = false := by simpa using h
    simp [h, IntOp.cmpi, this]

/-- The test for different words. -/
theorem cmpi_ne {w : ℕ} (a b : BitVec w) : IntOp.cmpi .ne a b = if a = b then 0#1 else 1#1 := by
  by_cases h : a = b
  · simp [h, IntOp.cmpi]
  · have : (a != b) = true := by simpa using h
    simp [h, IntOp.cmpi, this]

theorem select_eq {α : Type} {w : ℕ} (a b : BitVec w) (x y : α) :
    Scalar.select (IntOp.cmpi .eq a b) x y = if a = b then x else y := by
  rw [cmpi_eq]
  by_cases h : a = b <;> simp [h, Scalar.select]

theorem select_not_eq {α : Type} {w : ℕ} (a b : BitVec w) (x y : α) :
    Scalar.select (IntOp.xori (IntOp.cmpi .eq a b) 1#1) x y = if a = b then y else x := by
  rw [cmpi_eq]
  by_cases h : a = b <;> simp [h, Scalar.select, IntOp.xori]

/-- One pair's term of the loss. -/
theorem term_at (x2 : Vec Ideal S256x1 .i32) (x3 : Vec Ideal S1x256 .i32) (a b : Vec Ideal S256x1 .f32) (n : Vec Ideal S1x1 .f32)
    (qr : Vec Ideal S256x256 .f32) (z : Vec Ideal S256x128 .f32) (r c : Fin 256) :
    k0_pay74 a b n (k0_pay70 x2) k0_pay71 qr z x2 x3 (ix2 r c)
      = Ideal.log (Ideal.exp (sim z r c) + ((∑ x, if x2 (ix2 r 0) = x3 (ix2 0 x) then 0 else Ideal.exp (sim z r x))
          + chosen (others x2 (n (ix2 0 0)) r) (∑ x, Ideal.exp2 (qr (ix2 r x))) (a (ix2 r 0)) (b (ix2 r 0)))) - sim z r c := by
  pointwise [k0_pay74, k0_pay70, k0_pay71, k0_pay72]
  simp only [select_eq, select_not_eq]
  rfl

theorem select_pos {α : Type} {w : ℕ} (a b : BitVec w) (r c : Fin 256) (x y : α) :
    Scalar.select (IntOp.andi (IntOp.cmpi .eq a b) (IntOp.xori (IntOp.cmpi .eq (BitVec.ofNat 32 r.val) (BitVec.ofNat 32 c.val)) 1#1)) x y
      = if a = b ∧ r ≠ c then x else y := by
  have hrc : BitVec.ofNat 32 r.val = BitVec.ofNat 32 c.val ↔ r = c := by
    constructor
    · intro h
      have := congrArg BitVec.toNat h
      simp only [BitVec.toNat_ofNat] at this
      apply Fin.ext
      omega
    · rintro rfl; rfl
  rw [cmpi_eq, cmpi_eq]
  by_cases h : a = b <;> by_cases h' : r = c <;>
    simp [h, h', hrc, Scalar.select, IntOp.xori, IntOp.andi]

/-- The mean over the positive pairs. -/
theorem mean_at (x2 : Vec Ideal S256x1 .i32) (x3 : Vec Ideal S1x256 .i32) (t : Vec Ideal S256x256 .f32) :
    k0_pay9 (F := Ideal) (k0_pay73 x2 x3) t (ix2 0 0)
      = (if (0 : EReal) < ∑ r : Fin 256, ∑ c : Fin 256, if x2 (ix2 r 0) = x3 (ix2 0 c) ∧ r ≠ c then 1 else 0 then
          Ideal.div (∑ r : Fin 256, ∑ c : Fin 256, if x2 (ix2 r 0) = x3 (ix2 0 c) ∧ r ≠ c then t (ix2 r c) else 0)
            (max (∑ r : Fin 256, ∑ c : Fin 256, if x2 (ix2 r 0) = x3 (ix2 0 c) ∧ r ≠ c then 1 else 0) 1)
        else 0) := by
  pointwise [k0_pay9, k0_pay73, k0_pay72]
  simp only [select_pos]

/-- An entry of a tile's masked similarities. -/
theorem tile_at (z : Vec Ideal S256x128 .f32) (e : Vec Ideal S4096x128 .f32) (l : Vec Ideal S1x1x4096 .i32) (x2 : Vec Ideal S256x1 .i32)
    (r : Fin 256) (j : Fin 4096) :
    k0_pay7 (F := Ideal) z e l x2 (ix3 0 r j)
      = if l (ix3 0 0 j) = x2 (ix2 r 0) then ⊥ else (∑ d, (show EReal from z (ix2 r d)) * e (ix2 j d)) := by
  pointwise [k0_pay7, k0_pay4, k0_pay5]
  rw [cmpi_ne]
  by_cases h : l (ix3 0 0 j) = x2 (ix2 r 0)
  · simp [h, Scalar.select]
    rfl
  · simp [h, Scalar.select]

/-- An entry of the first tile's similarities, before the mask. -/
theorem raw_at (z : Vec Ideal S256x128 .f32) (e : Vec Ideal S4096x128 .f32) (r : Fin 256) (j : Fin 256) :
    k0_pay8 (F := Ideal) z e (ix2 r j) = (∑ d, (show EReal from z (ix2 r d)) * e (ix2 ⟨j.val, by omega⟩ d)) := by
  pointwise [k0_pay8, k0_pay4]

/-- The count of ones after one more tile. -/
theorem ones_at (l : Vec Ideal S1x1x4096 .i32) (n : Vec Ideal S1x1 .f32) :
    k0_pay6 (F := Ideal) l n (ix2 0 0) = (show EReal from n (ix2 0 0)) + ∑ j : Fin 4096, (((l (ix3 0 0 j)).toInt : ℝ) : EReal) := by
  pointwise [k0_pay6, k0_pay5]
  rfl

theorem zero_at : k0_pay13 (F := Ideal) (ix2 0 0) = (0 : EReal) := by
  pointwise [k0_pay13]

/-- The scaled projections. -/
theorem scaled_at (x : Vec Ideal S256x768 .f32) (w1 : Vec Ideal S768x768 .f32) (b1 : Vec Ideal S1x768 .f32) (w2 : Vec Ideal S768x128 .f32)
    (b2 : Vec Ideal S1x128 .f32) (r : Fin 256) (d : Fin 128) :
    k0_pay12 (F := Ideal) x w1 b1 w2 b2 (ix2 r d)
      = (show EReal from k0_pay11 x w1 b1 w2 b2 (ix2 r d)) * (((7 / 100 * Real.log 2)⁻¹ : ℝ) : EReal) := by
  pointwise [k0_pay12, k0_pay11]
  rfl

/-- The normalized projections. -/
theorem unit_at (x : Vec Ideal S256x768 .f32) (w1 : Vec Ideal S768x768 .f32) (b1 : Vec Ideal S1x768 .f32) (w2 : Vec Ideal S768x128 .f32)
    (b2 : Vec Ideal S1x128 .f32) (r : Fin 256) (d : Fin 128) :
    k0_pay11 (F := Ideal) x w1 b1 w2 b2 (ix2 r d)
      = unit (proj (fun r l => x (ix2 r l)) (fun l k => w1 (ix2 l k)) (fun k => b1 (ix2 0 k)) (fun k d => w2 (ix2 k d))
          (fun d => b2 (ix2 0 d))) r d := by
  pointwise [k0_pay11, k0_pay10]
  rfl

end Cert.KernelIdeal.Rows
-- ==== Proof.Search.lean ====
module

public import proofs.«01_k».proof.Proof.Model
public import Mathlib.Tactic.Linarith
public import Mathlib.Tactic.Ring

@[expose] public section

noncomputable section

namespace Cert.Search

open Idealize.ShloMosaic Cert.Model

variable {ι : Type} [Fintype ι]

/-- 1/2, as the program writes it. -/
theorem half_eq : Ideal.ofBits .f32 0x3F000000#32 = ((1 / 2 : ℝ) : EReal) := by
  simp [Ideal.ofBits, Ideal.ieee, -EReal.coe_mul]; norm_num

/-- 256, as the program writes it. -/
theorem k_eq : Ideal.ofBits .f32 0x43800000#32 = ((256 : ℝ) : EReal) := by
  simp [Ideal.ofBits, Ideal.ieee, -EReal.coe_mul]; norm_num

/-- 65536, as the program writes it. -/
theorem n_eq : Ideal.ofBits .f32 0x47800000#32 = ((65536 : ℝ) : EReal) := by
  simp [Ideal.ofBits, Ideal.ieee, -EReal.coe_mul]; norm_num

/-- A similarity scaled by `c`, with `⊥` where the entry is masked out. -/
def masked (c : ℝ) (opp : ι → Prop) [DecidablePred opp] (u : ι → ℝ) (j : ι) : EReal := if opp j then ((c * u j : ℝ) : EReal) else ⊥

/-- How many unmasked similarities are at least `x`. -/
def cnt (opp : ι → Prop) [DecidablePred opp] (u : ι → ℝ) (x : ℝ) : ℕ := (Finset.univ.filter fun j => opp j ∧ x ≤ u j).card

/-- A sum of indicators is a count. -/
theorem sum_indicator (p : ι → Prop) [DecidablePred p] :
    (∑ j, if p j then (1 : EReal) else 0) = (((Finset.univ.filter p).card : ℝ) : EReal) := by
  rw [Finset.sum_boole]
  norm_cast

variable (opp : ι → Prop) [DecidablePred opp] (u : ι → ℝ) {c : ℝ} (hc : 0 < c)
include hc

/-- The count of scaled entries is the count of the entries. -/
theorem atLeast_masked (x : ℝ) : atLeast (masked c opp u) ((c * x : ℝ) : EReal) = ((cnt opp u x : ℝ) : EReal) := by
  unfold atLeast cnt
  rw [← sum_indicator]
  refine Finset.sum_congr rfl fun j _ => ?_
  refine if_congr ?_ rfl rfl
  unfold masked
  by_cases h : opp j
  · rw [if_pos h, EReal.coe_le_coe_iff]
    simp only [h, true_and]
    exact ⟨fun h => le_of_mul_le_mul_left h hc, fun h => mul_le_mul_of_nonneg_left h hc.le⟩
  · simp [h, -EReal.coe_mul]

omit hc in
theorem cnt_antitone {x y : ℝ} (h : x ≤ y) : cnt opp u y ≤ cnt opp u x := by
  refine Finset.card_le_card fun j hj => ?_
  simp only [Finset.mem_filter, Finset.mem_univ, true_and] at hj ⊢
  exact ⟨hj.1, h.trans hj.2⟩

/-- The `a`-th of the `2 ^ k + 1` points that cut `[-e, e]` into `2 ^ k` cells. -/
def point (e : ℝ) (k a : ℕ) : ℝ := e * (2 * a / 2 ^ k - 1)

/-- What the search holds after `k` passes: a cell, with the count above it. -/
def Holds (c e : ℝ) (k : ℕ) (p : EReal × EReal × EReal) : Prop :=
  ∃ a : ℕ, a < 2 ^ k ∧ p = (((c * point e k a : ℝ) : EReal), ((c * point e k (a + 1) : ℝ) : EReal), ((cnt opp u (point e k (a + 1)) : ℝ) : EReal))
    ∧ 256 ≤ cnt opp u (point e k a) ∧ cnt opp u (point e k (a + 1)) < 256

/-- A pass keeps the half of the cell that holds the 256th largest. -/
theorem holds_step {e : ℝ} (he : 0 < e) (k : ℕ) (p : EReal × EReal × EReal) (h : Holds opp u c e k p) :
    Holds opp u c e (k + 1) (step (masked c opp u) p) := by
  obtain ⟨a, ha, rfl, hlo, hhi⟩ := h
  have h0 : point e k a = point e (k + 1) (2 * a) := by
    unfold point; push_cast; rw [pow_succ]; field_simp
  have h1 : point e k (a + 1) = point e (k + 1) (2 * a + 2) := by
    unfold point; push_cast; rw [pow_succ]; field_simp
  have hpow : (0 : ℝ) < 2 ^ (k + 1) := by positivity
  have hlt : ∀ x y : ℕ, x < y → point e (k + 1) x < point e (k + 1) y := fun x y hxy => by
    unfold point
    have : (x : ℝ) < y := by exact_mod_cast hxy
    have : 2 * (x : ℝ) / 2 ^ (k + 1) < 2 * y / 2 ^ (k + 1) := by
      apply div_lt_div_of_pos_right _ hpow
      linarith
    exact mul_lt_mul_of_pos_left (by linarith) he
  have hm : mid ((c * point e k a : ℝ) : EReal) ((c * point e k (a + 1) : ℝ) : EReal) = ((c * point e (k + 1) (2 * a + 1) : ℝ) : EReal) := by
    unfold mid
    rw [half_eq, h0, h1, ← EReal.coe_add, ← EReal.coe_mul]
    congr 1
    unfold point; push_cast; ring
  have hml : ¬ ((c * point e k (a + 1) : ℝ) : EReal) ≤ ((c * point e (k + 1) (2 * a + 1) : ℝ) : EReal) := by
    rw [EReal.coe_le_coe_iff, not_le, h1]
    exact mul_lt_mul_of_pos_left (hlt _ _ (by omega)) hc
  have hmh : ¬ ((c * point e (k + 1) (2 * a + 1) : ℝ) : EReal) ≤ ((c * point e k a : ℝ) : EReal) := by
    rw [EReal.coe_le_coe_iff, not_le, h0]
    exact mul_lt_mul_of_pos_left (hlt _ _ (by omega)) hc
  unfold step
  simp only [hm, atLeast_masked opp u hc, k_eq, hml, hmh, not_false_eq_true, and_true]
  have hk : ((256 : ℝ) : EReal) ≤ ((cnt opp u (point e (k + 1) (2 * a + 1)) : ℝ) : EReal) ↔ 256 ≤ cnt opp u (point e (k + 1) (2 * a + 1)) := by
    rw [EReal.coe_le_coe_iff]; exact_mod_cast Iff.rfl
  by_cases hge : 256 ≤ cnt opp u (point e (k + 1) (2 * a + 1))
  · refine ⟨2 * a + 1, by rw [pow_succ]; omega, ?_, hge, by rw [← h1]; exact hhi⟩
    simp only [hk, hge, not_true_eq_false, if_true, if_false, h1]

  · refine ⟨2 * a, by rw [pow_succ]; omega, ?_, by rw [← h0]; exact hlo, by omega⟩
    simp only [hk, hge, not_false_eq_true, if_true, if_false, h0]

/-- After `k` passes. -/
theorem holds_iterate {e : ℝ} (he : 0 < e) (p : EReal × EReal × EReal) (h : Holds opp u c e 0 p) (k : ℕ) :
    Holds opp u c e k ((step (masked c opp u))^[k] p) := by
  induction k with
  | zero => exact h
  | succ k ih => rw [Function.iterate_succ_apply']; exact holds_step opp u hc he k _ ih

omit hc in
/-- Before the first pass: all the entries lie in the one cell. -/
theorem holds_start {e : ℝ} (hu : ∀ j, -e ≤ u j ∧ u j < e) (hn : 256 ≤ (Finset.univ.filter opp).card) :
    Holds opp u c e 0 (((-(e * c) : ℝ) : EReal), ((e * c : ℝ) : EReal), 0) := by
  have h0 : point e 0 0 = -e := by simp [point]
  have h1 : point e 0 (0 + 1) = e := by simp [point]; ring
  have c0 : cnt opp u (-e) = (Finset.univ.filter opp).card := by
    unfold cnt
    congr 1
    ext j
    simp [(hu j).1]
  have c1 : cnt opp u e = 0 := by
    unfold cnt
    rw [Finset.card_eq_zero, Finset.filter_eq_empty_iff]
    rintro j - ⟨-, h⟩
    exact absurd (hu j).2 (not_lt.2 h)
  refine ⟨0, by norm_num, ?_, by rw [h0, c0]; exact hn, by rw [h1, c1]; norm_num⟩
  rw [h0, h1, c1]
  refine Prod.ext ?_ (Prod.ext ?_ ?_)
  · show ((-(e * c) : ℝ) : EReal) = ((c * -e : ℝ) : EReal)
    congr 1; ring
  · show ((e * c : ℝ) : EReal) = ((c * e : ℝ) : EReal)
    congr 1; ring
  · simp

end Cert.Search
-- ==== Proof.Scalars.lean ====
module

public import Idealize.ShloMosaic.PureOps.Ideal
public import Mathlib.Tactic.Linarith
public import Mathlib.Tactic.Ring

@[expose] public section

noncomputable section

namespace Cert.Scalars

open Idealize.ShloMosaic

/-- A finite sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real over a nonzero real. -/
theorem div_real (x y : ℝ) (h : y ≠ 0) : Ideal.div (x : EReal) (y : EReal) = ((x / y : ℝ) : EReal) := by
  rw [Ideal.div_coe h, ← EReal.coe_mul]
  congr 1
  ring

/-- The factor that turns a similarity into a base-two exponent. -/
def scale : ℝ := (7 / 100 * Real.log 2)⁻¹

theorem scale_pos : 0 < scale := by
  unfold scale
  have := Real.log_pos (by norm_num : (1 : ℝ) < 2)
  positivity

/-- Two to a scaled similarity is the exponential of the similarity over the temperature. -/
theorem exp2_scaled (x : ℝ) : Ideal.exp2 ((scale * x : ℝ) : EReal) = Ideal.exp (Ideal.div (x : EReal) ((7 / 100 : ℝ) : EReal)) := by
  rw [div_real x _ (by norm_num), Ideal.exp2_coe, Ideal.exp_coe]
  congr 1
  have hl := Real.log_pos (by norm_num : (1 : ℝ) < 2)
  show (2 : ℝ) ^ (scale * x) = _
  rw [Real.rpow_def_of_pos (by norm_num)]
  congr 1
  unfold scale
  field_simp

theorem exp_div_real (x : ℝ) : Ideal.exp (Ideal.div (x : EReal) ((7 / 100 : ℝ) : EReal)) = ((Real.exp (x / (7 / 100)) : ℝ) : EReal) := by
  rw [div_real x _ (by norm_num), Ideal.exp_coe]

theorem exp_div_bot : Ideal.exp (Ideal.div ⊥ ((7 / 100 : ℝ) : EReal)) = 0 := by
  rw [Ideal.div_coe (by norm_num), EReal.bot_mul_coe_of_pos (by norm_num), Ideal.exp_bot]

/-- A product with the temperature's reciprocal is the quotient by the temperature. -/
theorem mul_inv_temp (x : EReal) : x * (((7 / 100 : ℝ)⁻¹ : ℝ) : EReal) = Ideal.div x ((7 / 100 : ℝ) : EReal) := by
  rw [Ideal.div_coe (by norm_num)]
  congr 2
  norm_num

/-- `log (exp a + exp b)` as the host computes it. -/
def logAddExp (a b : EReal) : EReal :=
  if a - b ≠ a - b then a + b else max a b + Ideal.log1p (Ideal.exp (-(max (a - b) (-(a - b)))))

/-- Of two logarithms, one perhaps of zero, it is the logarithm of the sum. -/
theorem logAddExp_log (x y : ℝ) (hx : 0 ≤ x) (hy : 0 < y) :
    logAddExp (Ideal.log (x : EReal)) (Ideal.log (y : EReal)) = Ideal.log ((x + y : ℝ) : EReal) := by
  unfold logAddExp
  rw [if_neg (by simp)]
  rcases hx.eq_or_lt with rfl | hx
  · have hl : Ideal.log (y : EReal) = ((Real.log y : ℝ) : EReal) := by rw [Ideal.log_coe, if_neg (not_le.2 hy)]
    have h0 : Ideal.log ((0 : ℝ) : EReal) = ⊥ := by rw [Ideal.log_coe, if_pos le_rfl]
    have h1 : Ideal.log (1 : EReal) = 0 := by
      rw [show (1 : EReal) = ((1 : ℝ) : EReal) from rfl, Ideal.log_coe, if_neg (by norm_num), Real.log_one]; rfl
    rw [zero_add, hl, h0, EReal.bot_sub, EReal.neg_bot, max_eq_right bot_le, max_eq_right bot_le, EReal.neg_top, Ideal.exp_bot]
    unfold Ideal.log1p
    rw [add_zero, h1, add_zero]
  · rw [Ideal.log_coe, if_neg (not_le.2 hx), Ideal.log_coe, if_neg (not_le.2 hy), Ideal.log_coe, if_neg (by linarith)]
    rw [← EReal.coe_sub, ← EReal.coe_neg, ← EReal.coe_strictMono.monotone.map_max, ← EReal.coe_strictMono.monotone.map_max,
      ← EReal.coe_neg, Ideal.exp_coe]
    unfold Ideal.log1p
    rw [show (1 : EReal) = ((1 : ℝ) : EReal) from rfl, ← EReal.coe_add, Ideal.log_coe, if_neg (by have := Real.exp_pos (-max (Real.log x - Real.log y) (-(Real.log x - Real.log y))); linarith),
      ← EReal.coe_add]
    congr 1
    have key : ∀ s t : ℝ, 0 < s → 0 < t → Real.log s ≤ Real.log t → Real.log t + Real.log (1 + Real.exp (Real.log s - Real.log t)) = Real.log (s + t) := by
      intro s t hs ht _
      rw [Real.exp_sub, Real.exp_log hs, Real.exp_log ht, ← Real.log_mul ht.ne' (by positivity)]
      congr 1
      field_simp
      ring
    rcases le_total (Real.log x) (Real.log y) with h | h
    · rw [max_eq_right h, max_eq_right (by linarith), neg_neg, key x y hx hy h]
    · rw [max_eq_left h, max_eq_left (by linarith), neg_sub, key y x hy hx h, add_comm]

/-- A real is the logarithm of its exponential. -/
theorem log_exp (s : ℝ) : (s : EReal) = Ideal.log ((Real.exp s : ℝ) : EReal) := by
  rw [Ideal.log_coe, if_neg (not_le.2 (Real.exp_pos s)), Real.log_exp]

end Cert.Scalars
-- ==== Proof.Sorted.lean ====
module

public import Idealize.ShloMosaic.Lib.Pointwise
public import Idealize.ShloMosaic.Lib.SortFacts

@[expose] public section

set_option maxRecDepth 16384

noncomputable section

namespace Cert.Sorted

open Idealize.ShloMosaic

variable {ι : Type} [Fintype ι] {n : ℕ} (v : ι → EReal) (σ : Fin n ≃ ι) (hs : Antitone (v ∘ σ))
include hs

/-- In descending order, those with a property of the large come first. -/
theorem prefix_card (P : EReal → Prop) [DecidablePred P] (hP : ∀ x y, x ≤ y → P x → P y) (i : Fin n) :
    P (v (σ i)) ↔ i.val < (Finset.univ.filter fun j => P (v j)).card := by
  have hcard : (Finset.univ.filter fun j => P (v j)).card = (Finset.univ.filter fun k => P (v (σ k))).card := by
    refine (Finset.card_bij (fun k _ => σ k) ?_ ?_ ?_).symm
    · intro k hk; simpa using hk
    · intro a _ b _ h; exact σ.injective h
    · intro j hj; exact ⟨σ.symm j, by simpa using hj, by simp⟩
  rw [hcard]
  constructor
  · intro h
    have hsub : Finset.Iic i ⊆ Finset.univ.filter fun k => P (v (σ k)) := fun k hk => by
      simp only [Finset.mem_filter, Finset.mem_univ, true_and]
      exact hP _ _ (hs (Finset.mem_Iic.1 hk)) h
    have := Finset.card_le_card hsub
    rw [Fin.card_Iic] at this
    omega
  · intro h
    by_contra hn
    have hsub : (Finset.univ.filter fun k => P (v (σ k))) ⊆ Finset.Iio i := fun k hk => by
      simp only [Finset.mem_filter, Finset.mem_univ, true_and] at hk
      rw [Finset.mem_Iio]
      by_contra hik
      exact hn (hP _ _ (hs (not_lt.1 hik)) hk)
    have := Finset.card_le_card hsub
    rw [Fin.card_Iio] at this
    omega

omit hs in
/-- A sum over the first `k`, where the rest contribute nothing, is the whole sum. -/
theorem sum_top {k : ℕ} (hk : k ≤ n) (f : EReal → EReal) (hf : ∀ i : Fin n, k ≤ i.val → f (v (σ i)) = 0) :
    ∑ i : Fin k, f (v (σ (i.castLE hk))) = ∑ j, f (v j) := by
  obtain ⟨m, rfl⟩ := Nat.exists_eq_add_of_le hk
  rw [← σ.sum_comp fun j => f (v j), Fin.sum_univ_add, Finset.sum_eq_zero (s := Finset.univ) (f := fun i : Fin m => f (v (σ (Fin.natAdd k i)))), add_zero]
  · rfl
  · intro i _
    exact hf _ (by simp)

end Cert.Sorted

namespace Cert.Sorted

open Idealize.ShloMosaic

/-- The positions of a list of extended reals, by their entries in descending order. -/
theorem sorted_antitone {n : ℕ} (v : Fin n → EReal) (B : Fin n → Fin n → Bool) (hB : ∀ a b, B a b = true ↔ v b < v a) :
    Antitone (v ∘ sortedFrom B) := by
  have hB' : ∀ a b, B a b = false ↔ v a ≤ v b := fun a b => by
    rw [← not_lt, ← hB, Bool.not_eq_true]
  intro i j hij
  rcases hij.eq_or_lt with h | h
  · rw [h]
  · exact (hB' _ _).1 (sortedFrom_noInversion B B (fun a b h => (hB' _ _).2 ((hB _ _).1 h).le) (fun _ _ h => h)
      (fun a b c h h' => (hB' _ _).2 (((hB' _ _).1 h).trans ((hB' _ _).1 h'))) i j h)

/-- The positions of a list of extended reals, those of the greater entries first. -/
def order {n : ℕ} (v : Fin n → EReal) : Fin n ≃ Fin n :=
  Equiv.ofBijective (sortedFrom fun a b => decide (v b < v a)) ⟨sortedFrom_injective _, sortedFrom_surjective _⟩

theorem order_antitone {n : ℕ} (v : Fin n → EReal) : Antitone (v ∘ order v) :=
  sorted_antitone v (fun a b => decide (v b < v a)) fun a b => by simp

/-- The host's comparison of extended reals. -/
theorem greater_eq (a b : EReal) : (FloatOps.cmpfTotal (F := Ideal) (φ := .f32) .gt a b == 1#1) = decide (b < a) := by
  show (Ideal.cmp .ogt a b == 1#1) = _
  unfold Ideal.cmp
  by_cases h : b < a
  · simp [h]
  · simp [h]

/-- The first `k` of each row. -/
theorem slice_at {α : Type} {m n k : ℕ} (hk : k ≤ n) (y : (⟨2, ![m, n]⟩ : Shape).Idx → α) (h) (r : Fin m) (i : Fin k) :
    extractStridedSlice ⟨2, ![m, k]⟩ (fun _ => 0) y h (ix2 r i) = y (ix2 r (i.castLE hk)) := by
  unfold extractStridedSlice
  refine congrArg y (funext fun a => ?_)
  fin_cases a <;> apply Fin.ext <;> simp [ix2]

/-- Another position of the same row. -/
theorem along_row {m n : ℕ} (r : Fin m) (p q : Fin n) (h : 1 < (⟨2, ![m, n]⟩ : Shape).rank) :
    Shape.Idx.along (s := ⟨2, ![m, n]⟩) (ix2 r p) ⟨1, h⟩ q = ix2 r q := by
  unfold Shape.Idx.along
  funext a
  fin_cases a
  · exact Function.update_of_ne (by simp [Fin.ext_iff]) _ _
  · exact Function.update_self _ _ _

/-- The `k` greatest of each row: the first of the row in descending order. -/
theorem topK_row {m n k : ℕ} (hk : k ≤ n) (x : FVec Ideal ⟨2, ![m, n]⟩ .f32) (h) (r : Fin m) (i : Fin k) :
    (Host.topK ⟨2, ![m, k]⟩ 1 (FloatOps.cmpfTotal (F := Ideal) (φ := .f32) .gt) x h).1 (ix2 r i)
        = x (ix2 r (order (fun j => (x (ix2 r j) : EReal)) (i.castLE hk))) := by
  unfold Host.topK Host.sort2
  simp only [show (1 : ℕ) < 2 from by norm_num, dif_pos, greater_eq]
  rw [slice_at hk]
  refine (congrArg x (along_row r _ _ _)).trans ?_
  refine congrArg (fun b => x (ix2 r (sortedFrom b (i.castLE hk)))) (funext fun k => funext fun k' => ?_)
  exact congrArg₂ (fun a b => decide ((x a : EReal) < x b)) (along_row r _ k' _) (along_row r _ k _)

end Cert.Sorted
-- ==== Proof.Hard.lean ====
/- The sum over an anchor's hard negatives: the kernel's bisection against the rounded sum. -/
module

public import proofs.«01_k».proof.Proof.Search
public import proofs.«01_k».proof.Proof.Scalars
public import proofs.«01_k».proof.Proof.Sorted

@[expose] public section

set_option maxRecDepth 16384

noncomputable section

namespace Cert.Hard

open Idealize.ShloMosaic Cert.Model Cert.Search Cert.Scalars Cert.Sorted

/-- An extended real over the temperature, exponentiated. -/
def expT (x : EReal) : EReal := Ideal.exp (Ideal.div x ((7 / 100 : ℝ) : EReal))

theorem expT_real (x : ℝ) : expT x = ((Real.exp (x / (7 / 100)) : ℝ) : EReal) := exp_div_real x

theorem expT_bot : expT ⊥ = 0 := exp_div_bot

/-- The lower end of the cell that holds `t`. -/
def cell (t : EReal) : EReal :=
  Ideal.liftRound Int.floor (Ideal.div ((t + ((51 / 50 : ℝ) : EReal)) * ((1024 : ℝ) : EReal)) ((51 / 50 : ℝ) : EReal))

/-- The end of a cell, as a similarity. -/
def cellEnd (a : EReal) : EReal :=
  Ideal.div (a * ((51 / 50 : ℝ) : EReal)) ((1024 : ℝ) : EReal) - ((51 / 50 : ℝ) : EReal)

/-- The 256 values that a row's hard negatives count with: the greatest `vals` of the unmasked ones, of which there
are `N` — rounded in the last one's cell, where there was a choice —, or `raw` where there are none. -/
def hardVal (N : ℕ) (vals raw : Fin 256 → EReal) (i : Fin 256) : EReal :=
  if 0 < N then
    if 256 < N then if cellEnd (cell (vals 255) + 1) ≤ vals i then vals i else cellEnd (cell (vals 255)) else vals i
  else raw i

/-- The kernel's sum over a row's hard negatives, from the search's cell. -/
def searched {ι : Type} [Fintype ι] (v : ι → EReal) (p : EReal × EReal × EReal) : EReal :=
  (∑ i, if p.2.1 ≤ v i then Ideal.exp2 (v i) else 0) + max (Ideal.ofBits .f32 0x43800000#32 - p.2.2) 0 * Ideal.exp2 p.1

/-- The ends of the cells are where the search's points are. -/
theorem cellEnd_nat (a : ℕ) : cellEnd ((a : ℝ) : EReal) = ((point (51 / 50) 11 a : ℝ) : EReal) := by
  unfold cellEnd
  rw [← EReal.coe_mul, div_real _ _ (by norm_num), ← EReal.coe_sub]
  congr 1
  unfold point
  ring

/-- A similarity between two neighbouring points lies in their cell. -/
theorem cell_eq (a : ℕ) (t : ℝ) (h0 : point (51 / 50) 11 a ≤ t) (h1 : t < point (51 / 50) 11 (a + 1)) :
    cell (t : EReal) = ((a : ℝ) : EReal) := by
  unfold cell
  rw [← EReal.coe_add, ← EReal.coe_mul, div_real _ _ (by norm_num), Ideal.liftRound_coe]
  have : ⌊(t + 51 / 50) * 1024 / (51 / 50 : ℝ)⌋ = (a : ℤ) := by
    rw [Int.floor_eq_iff]
    unfold point at h0 h1
    push_cast at h1 ⊢
    constructor
    · rw [le_div_iff₀ (by norm_num)]; nlinarith
    · rw [div_lt_iff₀ (by norm_num)]; nlinarith
  rw [this]
  norm_num

/-- Terms from `m` on, of `m + d`. -/
theorem sum_rest (m d : ℕ) (E : ℝ) : (∑ i ∈ Finset.range (m + d), if i < m then (0 : ℝ) else E) = d * E := by
  induction d with
  | zero =>
    rw [Finset.sum_eq_zero]
    · simp
    · intro i hi
      rw [if_pos (by simpa using hi)]
  | succ d ih =>
    rw [← Nat.add_assoc, Finset.sum_range_succ, ih, if_neg (by omega)]
    push_cast
    ring

/-- A sum of 256 exponentials of values below `⊤`, the first of them real, is a positive real. -/
theorem sum_pos (x : Fin 256 → EReal) (hx : ∀ i, x i ≠ ⊤) (h0 : x 0 ≠ ⊥) : ∃ B : ℝ, 0 < B ∧ ∑ i, expT (x i) = (B : EReal) := by
  have h : ∀ i, ∃ y : ℝ, 0 ≤ y ∧ expT (x i) = (y : EReal) ∧ (x i ≠ ⊥ → 0 < y) := fun i => by
    rcases hi : x i with _ | _ | t
    · exact ⟨0, le_rfl, expT_bot, fun h => absurd rfl h⟩
    · exact absurd hi (hx i)
    · exact ⟨_, (Real.exp_pos _).le, expT_real t, fun _ => Real.exp_pos _⟩
  choose y hy0 hy hy1 using h
  refine ⟨∑ i, y i, ?_, ?_⟩
  · exact Finset.sum_pos' (fun i _ => hy0 i) ⟨0, Finset.mem_univ _, hy1 0 h0⟩
  · rw [coe_sum]
    exact Finset.sum_congr rfl fun i _ => hy i

section row

variable {ι : Type} [Fintype ι] (opp : ι → Prop) [DecidablePred opp] (u : ι → ℝ)

/-- The reference's masked similarities. -/
def shown (j : ι) : EReal := if opp j then (u j : EReal) else ⊥

/-- The two masked rows, exponentiated. -/
theorem exp2_masked (j : ι) : Ideal.exp2 (masked scale opp u j) = expT (shown opp u j) := by
  unfold masked shown
  by_cases h : opp j
  · rw [if_pos h, if_pos h]; exact exp2_scaled _
  · rw [if_neg h, if_neg h, expT_bot]; rfl

/-- The two masked rows, compared. -/
theorem le_masked (x : ℝ) (j : ι) : ((scale * x : ℝ) : EReal) ≤ masked scale opp u j ↔ (x : EReal) ≤ shown opp u j := by
  unfold masked shown
  by_cases h : opp j
  · rw [if_pos h, if_pos h, EReal.coe_le_coe_iff, EReal.coe_le_coe_iff]
    exact ⟨fun h => le_of_mul_le_mul_left h scale_pos, fun h => mul_le_mul_of_nonneg_left h scale_pos.le⟩
  · rw [if_neg h, if_neg h]
    simp only [le_bot_iff, EReal.coe_ne_bot]

theorem card_ge (x : ℝ) [DecidablePred fun j => (x : EReal) ≤ shown opp u j] :
    (Finset.univ.filter fun j => (x : EReal) ≤ shown opp u j).card = cnt opp u x := by
  unfold cnt
  congr 1
  ext j
  simp only [Finset.mem_filter, Finset.mem_univ, true_and]
  unfold shown
  by_cases h : opp j
  · simp [h]
  · simp [h]

theorem card_bot [DecidablePred fun j => ⊥ < shown opp u j] :
    (Finset.univ.filter fun j => ⊥ < shown opp u j).card = (Finset.univ.filter opp).card := by
  congr 1
  ext j
  simp only [Finset.mem_filter, Finset.mem_univ, true_and]
  unfold shown
  by_cases h : opp j
  · simp [h, EReal.bot_lt_coe]
  · simp [h]

variable (σ : Fin 65536 ≃ ι) (hs : Antitone (shown opp u ∘ σ))

/-- The greatest 256. -/
def tops (i : Fin 256) : EReal := shown opp u (σ (i.castLE (by norm_num)))

theorem shown_ne_top (j : ι) : shown opp u j ≠ ⊤ := by
  unfold shown
  split
  · exact EReal.coe_ne_top _
  · exact bot_ne_top

include hs

theorem tops_real (i : Fin 256) (hi : i.val < (Finset.univ.filter opp).card) : ∃ t : ℝ, tops opp u σ i = (t : EReal) := by
  have h := (prefix_card (shown opp u) σ hs (fun x => ⊥ < x) (fun x y hxy h => lt_of_lt_of_le h hxy) (i.castLE (by norm_num))).2
    (by rw [card_bot]; exact hi)
  exact ⟨(tops opp u σ i).toReal, (EReal.coe_toReal (shown_ne_top opp u _) h.ne').symm⟩

/-- Where there was a choice, the searched sum is the sum over the rounded 256 greatest. -/
theorem searched_eq (hu : ∀ j, -(51 / 50) ≤ u j ∧ u j < 51 / 50) (hn : 256 < (Finset.univ.filter opp).card)
    (raw : Fin 256 → EReal) :
    searched (masked scale opp u) ((step (masked scale opp u))^[11]
        (((-(51 / 50 * scale) : ℝ) : EReal), ((51 / 50 * scale : ℝ) : EReal), 0))
      = ∑ i, expT (hardVal (Finset.univ.filter opp).card (tops opp u σ) raw i)
    ∧ ∃ B : ℝ, 0 < B ∧ ∑ i, expT (hardVal (Finset.univ.filter opp).card (tops opp u σ) raw i) = (B : EReal) := by
  obtain ⟨a, -, hp, hlo, hhi⟩ := holds_iterate opp u scale_pos (by norm_num : (0 : ℝ) < 51 / 50) _
    (holds_start (c := scale) opp u hu hn.le) 11
  rw [hp]
  set lo := point (51 / 50) 11 a with hlo'
  set hi := point (51 / 50) 11 (a + 1) with hhi'
  obtain ⟨t, ht⟩ := tops_real opp u σ hs 255 (by show 255 < _; omega)
  have hge : ∀ (x : ℝ) (i : Fin 256), (x : EReal) ≤ tops opp u σ i ↔ i.val < cnt opp u x := fun x i => by
    have := prefix_card (shown opp u) σ hs (fun y => (x : EReal) ≤ y) (fun _ _ hxy h => h.trans hxy) (i.castLE (by norm_num))
    rw [card_ge] at this
    exact this
  have hlt : lo ≤ t := by
    have := (hge lo 255).2 (by show 255 < _; omega)
    rw [ht] at this
    exact EReal.coe_le_coe_iff.1 this
  have hth : t < hi := by
    by_contra h
    have := (hge hi 255).1 (by rw [ht]; exact EReal.coe_le_coe_iff.2 (not_lt.1 h))
    have : 255 < cnt opp u hi := this
    omega
  have hcell : cell (tops opp u σ 255) = ((a : ℝ) : EReal) := by rw [ht]; exact cell_eq a t hlt hth
  have hval : ∀ i, hardVal (Finset.univ.filter opp).card (tops opp u σ) raw i
      = if (hi : EReal) ≤ tops opp u σ i then tops opp u σ i else (lo : EReal) := fun i => by
    unfold hardVal
    rw [if_pos (by omega), if_pos hn, hcell, cellEnd_nat]
    have : ((a : ℝ) : EReal) + 1 = (((a + 1 : ℕ) : ℝ) : EReal) := by push_cast; rfl
    rw [this, cellEnd_nat]
  constructor
  · simp only [hval]
    have hsplit : ∀ i, expT (if (hi : EReal) ≤ tops opp u σ i then tops opp u σ i else (lo : EReal))
        = (fun x => if (hi : EReal) ≤ x then expT x else 0) (tops opp u σ i)
          + ((if i.val < cnt opp u hi then (0 : ℝ) else Real.exp (lo / (7 / 100)) : ℝ) : EReal) := fun i => by
      by_cases h : (hi : EReal) ≤ tops opp u σ i
      · have h' := (hge hi i).1 h
        simp only [h, h', if_true]
        rw [EReal.coe_zero, add_zero]
      · have h' : ¬ i.val < cnt opp u hi := fun h' => h ((hge hi i).2 h')
        simp only [h, h', if_false]
        rw [zero_add, expT_real]
    rw [Finset.sum_congr rfl fun i _ => hsplit i, Finset.sum_add_distrib]
    unfold searched
    congr 1
    · have := sum_top (shown opp u) σ (k := 256) (by norm_num) (fun x => if (hi : EReal) ≤ x then expT x else 0) fun i hi256 => by
        have h := prefix_card (shown opp u) σ hs (fun y => (hi : EReal) ≤ y) (fun _ _ hxy h => h.trans hxy) i
        rw [card_ge] at h
        exact if_neg fun hx => by have := h.1 hx; omega
      refine Eq.trans ?_ this.symm
      refine Finset.sum_congr rfl fun j _ => ?_
      exact if_congr (le_masked opp u hi j) (exp2_masked opp u j) rfl
    · rw [← coe_sum]
      show max (Ideal.ofBits .f32 0x43800000#32 - ((cnt opp u hi : ℝ) : EReal)) 0 * Ideal.exp2 ((scale * lo : ℝ) : EReal) = _
      rw [k_eq, exp2_scaled, exp_div_real, ← EReal.coe_sub, ← EReal.coe_zero, ← EReal.coe_strictMono.monotone.map_max, ← EReal.coe_mul]
      congr 1
      obtain ⟨d, hd⟩ := Nat.exists_eq_add_of_le hhi.le
      have hd' : (256 : ℝ) = cnt opp u hi + d := by exact_mod_cast hd
      rw [Fin.sum_univ_eq_sum_range (fun i => if i < cnt opp u hi then (0 : ℝ) else Real.exp (lo / (7 / 100))) 256]
      rw [hd, sum_rest, hd', max_eq_left (by simp)]
      ring
  · refine sum_pos _ (fun i => ?_) ?_
    · rw [hval]
      split
      · exact shown_ne_top opp u _
      · exact EReal.coe_ne_top _
    · rw [hval]
      split
      · rename_i h
        exact ne_of_gt (lt_of_lt_of_le (EReal.bot_lt_coe hi) h)
      · exact EReal.coe_ne_bot _

/-- Where all of them fit, the sum over all is the sum over the 256 greatest. -/
theorem all_eq (h0 : 0 < (Finset.univ.filter opp).card) (hn : (Finset.univ.filter opp).card ≤ 256) (raw : Fin 256 → EReal) :
    ∑ j, Ideal.exp2 (masked scale opp u j) = ∑ i, expT (hardVal (Finset.univ.filter opp).card (tops opp u σ) raw i)
    ∧ ∃ B : ℝ, 0 < B ∧ ∑ i, expT (hardVal (Finset.univ.filter opp).card (tops opp u σ) raw i) = (B : EReal) := by
  have hval : ∀ i, hardVal (Finset.univ.filter opp).card (tops opp u σ) raw i = tops opp u σ i := fun i => by
    unfold hardVal
    rw [if_pos h0, if_neg (not_lt.2 hn)]
  constructor
  · simp only [hval, exp2_masked]
    refine (sum_top (shown opp u) σ (k := 256) (by norm_num) expT fun i hi => ?_).symm
    have h := prefix_card (shown opp u) σ hs (fun y => ⊥ < y) (fun x y hxy h => lt_of_lt_of_le h hxy) i
    rw [card_bot] at h
    have : shown opp u (σ i) = ⊥ := by
      by_contra hb
      have := h.1 (bot_lt_iff_ne_bot.2 hb)
      omega
    rw [this, expT_bot]
  · refine sum_pos _ (fun i => ?_) ?_
    · rw [hval]; exact shown_ne_top opp u _
    · rw [hval]
      obtain ⟨t, ht⟩ := tops_real opp u σ hs 0 h0
      rw [ht]
      exact EReal.coe_ne_bot _

/-- The kernel's choice among its three sums is the sum over the reference's hard negatives, a positive real. -/
theorem chosen_eq (hu : ∀ j, -(51 / 50) ≤ u j ∧ u j < 51 / 50) (ρ : Fin 256 → ℝ) :
    chosen (((Finset.univ.filter opp).card : ℝ) : EReal) (∑ i, Ideal.exp2 ((scale * ρ i : ℝ) : EReal))
        (∑ j, Ideal.exp2 (masked scale opp u j))
        (searched (masked scale opp u) ((step (masked scale opp u))^[11]
          (((-(51 / 50 * scale) : ℝ) : EReal), ((51 / 50 * scale : ℝ) : EReal), 0)))
      = ∑ i, expT (hardVal (Finset.univ.filter opp).card (tops opp u σ) (fun i => (ρ i : EReal)) i)
    ∧ ∃ B : ℝ, 0 < B ∧ ∑ i, expT (hardVal (Finset.univ.filter opp).card (tops opp u σ) (fun i => (ρ i : EReal)) i) = (B : EReal) := by
  unfold chosen
  rw [k_eq]
  rcases Nat.eq_zero_or_pos (Finset.univ.filter opp).card with h0 | h0
  · have hval : ∀ i, hardVal (Finset.univ.filter opp).card (tops opp u σ) (fun i => (ρ i : EReal)) i = (ρ i : EReal) := fun i => by
      unfold hardVal
      rw [if_neg (by omega)]
    rw [if_pos (by rw [h0]; simp)]
    constructor
    · refine Finset.sum_congr rfl fun i _ => ?_
      rw [hval]
      exact exp2_scaled _
    · refine sum_pos _ (fun i => ?_) ?_
      · rw [hval]; exact EReal.coe_ne_top _
      · rw [hval]; exact EReal.coe_ne_bot _
  · rw [if_neg (by intro h; have h : (Finset.univ.filter opp).card = 0 := by exact_mod_cast h
                   omega)]
    by_cases hn : (Finset.univ.filter opp).card ≤ 256
    · rw [if_pos (by rw [EReal.coe_le_coe_iff]; exact_mod_cast hn)]
      exact all_eq opp u σ hs h0 hn _
    · rw [if_neg (by rw [EReal.coe_le_coe_iff]; exact_mod_cast hn)]
      exact searched_eq opp u σ hs hu (not_le.1 hn) _

/-- The same with the kernel's entries in an order of their own. -/
theorem chosen_reindexed {κ : Type} [Fintype κ] (f : κ ≃ ι) (v : κ → EReal) (hv : ∀ k, v k = masked scale opp u (f k))
    (hu : ∀ j, -(51 / 50) ≤ u j ∧ u j < 51 / 50) (ρ : Fin 256 → ℝ) :
    chosen (((Finset.univ.filter opp).card : ℝ) : EReal) (∑ i, Ideal.exp2 ((scale * ρ i : ℝ) : EReal))
        (∑ k, Ideal.exp2 (v k))
        (searched v ((step v)^[11] (((-(51 / 50 * scale) : ℝ) : EReal), ((51 / 50 * scale : ℝ) : EReal), 0)))
      = ∑ i, expT (hardVal (Finset.univ.filter opp).card (tops opp u σ) (fun i => (ρ i : EReal)) i)
    ∧ ∃ B : ℝ, 0 < B ∧ ∑ i, expT (hardVal (Finset.univ.filter opp).card (tops opp u σ) (fun i => (ρ i : EReal)) i) = (B : EReal) := by
  have hv' : v = masked scale (fun k => opp (f k)) (fun k => u (f k)) := funext hv
  have hcard : (Finset.univ.filter fun k => opp (f k)).card = (Finset.univ.filter opp).card := by
    refine Finset.card_bij (fun k _ => f k) ?_ ?_ ?_
    · intro k hk; simpa using hk
    · intro a _ b _ hab; exact f.injective hab
    · intro j hj; exact ⟨f.symm j, by simpa using hj, by simp⟩
  have hsh : ∀ i, shown (fun k => opp (f k)) (fun k => u (f k)) ((σ.trans f.symm) i) = shown opp u (σ i) := fun i => by
    unfold shown
    simp only [Equiv.trans_apply, Equiv.apply_symm_apply]
  have htop : tops (fun k => opp (f k)) (fun k => u (f k)) (σ.trans f.symm) = tops opp u σ := funext fun i => hsh _
  have key := chosen_eq (fun k => opp (f k)) (fun k => u (f k)) (σ.trans f.symm)
    (fun i j hij => by
      simp only [Function.comp_apply, hsh]
      exact hs hij)
    (fun k => hu _) ρ
  rw [hcard, htop, ← hv'] at key
  exact key

end row

end Cert.Hard
-- ==== Proof.Reals.lean ====
/- Which quantities are real numbers, and how large they are. -/
module

public import proofs.«01_k».proof.Proof.Model
public import proofs.«01_k».proof.Proof.Scalars

@[expose] public section

noncomputable section

namespace Cert.Reals

open Idealize.ShloMosaic Cert.Model Cert.Scalars

/-- `a` is a real number. -/
def IsReal (a : EReal) : Prop := ∃ y : ℝ, a = (y : EReal)

/-- A real is real. -/
theorem isReal_coe (y : ℝ) : IsReal (y : EReal) := ⟨y, rfl⟩

/-- So is a sum, -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- a product, -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- a maximum with 0, -/
theorem IsReal.max_zero {a : EReal} (ha : IsReal a) : IsReal (max a 0) := by
  obtain ⟨x, rfl⟩ := ha
  exact ⟨max x 0, (EReal.coe_strictMono.monotone.map_max (a := x) (b := 0)).symm⟩

/-- a sum over a finite set. -/
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- What lies below infinity in absolute value is real. -/
theorem isReal_of_abs {a : EReal} (h : max a (-a) < ⊤) : IsReal a := by
  induction a with
  | bot => exact absurd h (by simp)
  | top => exact absurd h (by simp)
  | coe t => exact ⟨t, rfl⟩

/-- Numbers whose squares sum to less than infinity are real. -/
theorem isReal_of_sq {ι : Type} [Fintype ι] {f : ι → EReal} {b : ℝ} (h : ∑ i, f i * f i ≤ (b : EReal)) (i : ι) : IsReal (f i) := by
  have hnn : ∀ x : EReal, 0 ≤ x * x := fun x => by
    rcases x with _ | _ | t
    · exact le_top.trans_eq EReal.bot_mul_bot.symm
    · exact le_top.trans_eq EReal.top_mul_top.symm
    · show (0 : EReal) ≤ (t : EReal) * t
      rw [← EReal.coe_mul]
      exact EReal.coe_nonneg.2 (mul_self_nonneg t)
  have hle : f i * f i ≤ ∑ i, f i * f i := Finset.single_le_sum (f := fun i => f i * f i) (fun j _ => hnn _) (Finset.mem_univ i)
  have : f i * f i < ⊤ := lt_of_le_of_lt (hle.trans h) (EReal.coe_lt_top b)
  generalize f i = x at this
  induction x with
  | bot => exact absurd this (by simp [EReal.bot_mul_bot])
  | top => exact absurd this (by simp [EReal.top_mul_top])
  | coe t => exact ⟨t, rfl⟩

/-- The projection of reals is real. -/
theorem proj_real {x : Fin 256 → Fin 768 → EReal} {w1 : Fin 768 → Fin 768 → EReal} {b1 : Fin 768 → EReal} {w2 : Fin 768 → Fin 128 → EReal}
    {b2 : Fin 128 → EReal} (hx : ∀ r l, IsReal (x r l)) (hw1 : ∀ l k, IsReal (w1 l k)) (hb1 : ∀ k, IsReal (b1 k))
    (hw2 : ∀ k d, IsReal (w2 k d)) (hb2 : ∀ d, IsReal (b2 d)) (r : Fin 256) (d : Fin 128) : IsReal (proj x w1 b1 w2 b2 r d) :=
  (IsReal.sum fun k => (((IsReal.sum fun l => (hx r l).mul (hw1 l k)).add (hb1 k)).max_zero).mul (hw2 k d)).add (hb2 d)

/-- The small number is a positive real. -/
theorem small_pos : ∃ s : ℝ, 0 < s ∧ Ideal.ofBits .f32 0x2B8CBCCC#32 = ((s : ℝ) : EReal) := by
  refine ⟨9223372 / 9223372036854775808, by norm_num, ?_⟩
  simp [Ideal.ofBits, Ideal.ieee, -EReal.coe_mul]
  norm_num

/-- A real row over its norm is real, and no longer than 1. -/
theorem unit_real {p : Fin 256 → Fin 128 → EReal} (hp : ∀ r d, IsReal (p r d)) :
    ∃ z : Fin 256 → Fin 128 → ℝ, (∀ r d, unit p r d = (z r d : EReal)) ∧ ∀ r, ∑ d, z r d ^ 2 ≤ 1 := by
  choose q hq using hp
  obtain ⟨s, hs, hs'⟩ := small_pos
  have hn : ∀ r, max (Ideal.sqrt (∑ e, p r e * p r e)) (Ideal.ofBits .f32 0x2B8CBCCC#32)
      = ((max (√(∑ e, q r e ^ 2)) s : ℝ) : EReal) := fun r => by
    have : ∑ e, p r e * p r e = ((∑ e, q r e ^ 2 : ℝ) : EReal) := by
      rw [coe_sum]
      refine Finset.sum_congr rfl fun e _ => ?_
      rw [hq, ← EReal.coe_mul, pow_two]
    rw [this, hs', Ideal.sqrt_coe, if_neg (not_lt.2 (Finset.sum_nonneg fun e _ => sq_nonneg _))]
    exact (EReal.coe_strictMono.monotone.map_max).symm
  have hpos : ∀ r, 0 < max (√(∑ e, q r e ^ 2)) s := fun r => lt_max_of_lt_right hs
  refine ⟨fun r d => q r d / max (√(∑ e, q r e ^ 2)) s, fun r d => ?_, fun r => ?_⟩
  · unfold unit
    rw [hn, hq, div_real _ _ (hpos r).ne']
  · simp only [div_pow]
    rw [← Finset.sum_div, div_le_one (pow_pos (hpos r) 2)]
    calc ∑ e, q r e ^ 2 = √(∑ e, q r e ^ 2) ^ 2 := (Real.sq_sqrt (Finset.sum_nonneg fun e _ => sq_nonneg _)).symm
      _ ≤ _ := pow_le_pow_left₀ (Real.sqrt_nonneg _) (le_max_left _ _) 2

/-- Rows of norm at most 1, and at most the root of 1.02, have a product strictly between the ends of the searched interval. -/
theorem dot_bound (z e : Fin 128 → ℝ) (hz : ∑ d, z d ^ 2 ≤ 1) (he : ∑ d, e d ^ 2 ≤ 103 / 100) :
    -(51 / 50) ≤ ∑ d, z d * e d ∧ ∑ d, z d * e d < 51 / 50 := by
  have h := Finset.sum_mul_sq_le_sq_mul_sq Finset.univ z e
  have h0 : 0 ≤ ∑ d, e d ^ 2 := Finset.sum_nonneg fun d _ => sq_nonneg _
  have h1 : (∑ d, z d * e d) ^ 2 < (51 / 50) ^ 2 := by nlinarith
  have h2 := abs_lt_of_sq_lt_sq' h1 (by norm_num)
  exact ⟨h2.1.le, h2.2⟩

theorem bound_eq : ∃ b : ℝ, b ≤ 103 / 100 ∧ Ideal.ofBits .f32 0x3F828F5C#32 = ((b : ℝ) : EReal) := by
  refine ⟨8556380 / 8388608, by norm_num, ?_⟩
  simp [Ideal.ofBits, Ideal.ieee, -EReal.coe_mul]
  norm_num

end Cert.Reals
-- ==== Proof.Loss.lean ====
/- The loss, as a function of the normalized projections, the labels and the queue. -/
module

public import proofs.«01_k».proof.Proof.Hard
public import proofs.«01_k».proof.Proof.Reals
public import Mathlib.Logic.Equiv.Fin.Basic

@[expose] public section

set_option maxRecDepth 16384

noncomputable section

namespace Cert.Loss

open Idealize.ShloMosaic Cert.Model Cert.Search Cert.Scalars Cert.Sorted Cert.Hard Cert.Reals

variable (z : Fin 256 → Fin 128 → EReal) (lab : Fin 256 → BitVec 32) (e : Fin 65536 → Fin 128 → EReal) (ql : Fin 65536 → BitVec 32)

/-- An anchor's similarity to a queue entry. -/
def queueSim (r : Fin 256) (j : Fin 65536) : EReal := ∑ d, z r d * e j d

/-- Two anchors' similarity, over the temperature. -/
def logit (r c : Fin 256) : EReal := Ideal.div (∑ d, z r d * z c d) ((7 / 100 : ℝ) : EReal)

/-- How many queue entries have the other label. -/
def opposite (r : Fin 256) : ℕ := (Finset.univ.filter fun j => ql j ≠ lab r).card

/-- The similarities to the entries of the other label; `⊥` at the rest. -/
def maskedSim (r : Fin 256) (j : Fin 65536) : EReal := if ql j ≠ lab r then queueSim z e r j else ⊥

/-- The 256 greatest of them. -/
def topSim (r i : Fin 256) : EReal := maskedSim z lab e ql r (order (maskedSim z lab e ql r) (i.castLE (by norm_num)))

/-- The sum over an anchor's hard negatives. -/
def hard (r : Fin 256) : EReal :=
  ∑ i, expT (hardVal (opposite lab ql r) (topSim z lab e ql r) (fun i => queueSim z e r (i.castLE (by norm_num))) i)

/-- The mean of `t` over the pairs of different anchors of one label; 0 where there is none. -/
def mean (t : Fin 256 → Fin 256 → EReal) : EReal :=
  if (0 : EReal) < ∑ r, ∑ c, if lab r = lab c ∧ r ≠ c then 1 else 0 then
    Ideal.div (∑ r, ∑ c, if lab r = lab c ∧ r ≠ c then t r c else 0) (max (∑ r, ∑ c, if lab r = lab c ∧ r ≠ c then 1 else 0) 1)
  else 0

/-- A pair's term: the logarithm of the sum over it and the anchor's negatives, less its logit. -/
def term (H : Fin 256 → EReal) (r c : Fin 256) : EReal :=
  Ideal.log (Ideal.exp (logit z r c) + ((∑ x, if lab r = lab x then 0 else Ideal.exp (logit z r x)) + H r)) - logit z r c

/-- The loss. -/
def loss : EReal := mean lab (term z lab (hard z lab e ql))

/-- Entry `l` of slab `j` is entry `4096 j + l` of the queue. -/
def entry : Fin 16 × Fin 4096 ≃ Fin 65536 := finProdFinEquiv.trans (finCongr (by norm_num))

/-- Its number. -/
theorem entry_val (i : Fin 16 × Fin 4096) : (entry i).val = i.2.val + 4096 * i.1.val := rfl

variable {z lab e ql}

/-- What the precondition gives of the projections and the queue. -/
structure Bounded (z : Fin 256 → Fin 128 → EReal) (lab : Fin 256 → BitVec 32) (e : Fin 65536 → Fin 128 → EReal)
    (ql : Fin 65536 → BitVec 32) : Prop where
  z_real : ∃ x : Fin 256 → Fin 128 → ℝ, (∀ r d, z r d = (x r d : EReal)) ∧ ∀ r, ∑ d, x r d ^ 2 ≤ 1
  e_real : ∃ y : Fin 65536 → Fin 128 → ℝ, (∀ j d, e j d = (y j d : EReal)) ∧ ∀ j, ∑ d, y j d ^ 2 ≤ 103 / 100
  lab_bit : ∀ r, lab r = 0#32 ∨ lab r = 1#32
  ql_bit : ∀ j, ql j = 0#32 ∨ ql j = 1#32

/-- The similarities are reals inside the search's range, scaled or not. -/
theorem queueSim_real (h : Bounded z lab e ql) (r : Fin 256) :
    ∃ u : Fin 65536 → ℝ, (∀ j, queueSim z e r j = (u j : EReal)) ∧ (∀ j, ∑ d, (z r d * (scale : EReal)) * e j d = ((scale * u j : ℝ) : EReal))
      ∧ ∀ j, -(51 / 50) ≤ u j ∧ u j < 51 / 50 := by
  obtain ⟨x, hx, hx1⟩ := h.z_real
  obtain ⟨y, hy, hy1⟩ := h.e_real
  refine ⟨fun j => ∑ d, x r d * y j d, fun j => ?_, fun j => ?_, fun j => dot_bound _ _ (hx1 r) (hy1 j)⟩
  · unfold queueSim
    rw [coe_sum]
    exact Finset.sum_congr rfl fun d _ => by rw [hx, hy, ← EReal.coe_mul]
  · rw [Finset.mul_sum, coe_sum]
    refine Finset.sum_congr rfl fun d _ => ?_
    rw [hx, hy, ← EReal.coe_mul, ← EReal.coe_mul]
    congr 1
    ring

/-- The logits are real. -/
theorem logit_real (h : Bounded z lab e ql) (r c : Fin 256) : ∃ s : ℝ, logit z r c = (s : EReal) := by
  obtain ⟨x, hx, -⟩ := h.z_real
  refine ⟨(∑ d, x r d * x c d) / (7 / 100), ?_⟩
  unfold logit
  rw [← div_real (∑ d, x r d * x c d) (7 / 100) (by norm_num), coe_sum]
  congr 1
  exact Finset.sum_congr rfl fun d _ => by rw [hx, hx, ← EReal.coe_mul]

/-- The count of what a condition excludes. -/
theorem card_not {n : ℕ} [h : n.AtLeastTwo] (p : Fin n → Prop) [DecidablePred p] :
    (((Finset.univ.filter fun j => ¬ p j).card : ℕ) : ℝ) = (n : ℝ) - ((Finset.univ.filter p).card : ℝ) := by
  have := Finset.card_filter_add_card_filter_not (s := (Finset.univ : Finset (Fin n))) p
  rw [Finset.card_univ, Fintype.card_fin] at this
  have h' := congrArg (fun k : ℕ => (k : ℝ)) this
  simp only [Nat.cast_add] at h'
  linarith

/-- The count of the other label from the count of the ones. -/
theorem opposite_eq (h : Bounded z lab e ql) (r : Fin 256) :
    ((opposite lab ql r : ℝ) : EReal)
      = if lab r = 0#32 then (((Finset.univ.filter fun j => ql j = 1#32).card : ℝ) : EReal)
        else Ideal.ofBits .f32 0x47800000#32 - (((Finset.univ.filter fun j => ql j = 1#32).card : ℝ) : EReal) := by
  have hne : (0#32 : BitVec 32) ≠ 1#32 := by decide
  unfold opposite
  rcases h.lab_bit r with h0 | h0
  · rw [if_pos h0, h0]
    have : (Finset.univ.filter fun j => ql j ≠ 0#32) = Finset.univ.filter fun j => ql j = 1#32 := by
      ext j
      simp only [Finset.mem_filter, Finset.mem_univ, true_and]
      rcases h.ql_bit j with hj | hj <;> rw [hj] <;> decide
    rw [this]
  · rw [if_neg (by rw [h0]; exact hne.symm), h0, n_eq, ← EReal.coe_sub]
    exact congrArg _ (card_not (n := 65536) (fun j => ql j = 1#32))

/-- The kernel's choice among three sums of scaled similarities is the sum over the hard negatives, a positive real. -/
theorem chosen_hard (h : Bounded z lab e ql) (r : Fin 256) (v : Fin 16 × Fin 4096 → EReal)
    (hv : ∀ i, v i = if ql (entry i) = lab r then ⊥ else ∑ d, (z r d * (scale : EReal)) * e (entry i) d) :
    chosen ((opposite lab ql r : ℝ) : EReal)
        (∑ x : Fin 256, Ideal.exp2 (∑ d, (z r d * (scale : EReal)) * e (x.castLE (by norm_num)) d))
        (∑ i, Ideal.exp2 (v i))
        (searched v ((step v)^[11] (((-(51 / 50 * scale) : ℝ) : EReal), ((51 / 50 * scale : ℝ) : EReal), 0)))
      = hard z lab e ql r
    ∧ ∃ B : ℝ, 0 < B ∧ hard z lab e ql r = (B : EReal) := by
  obtain ⟨u, hu, hsc, hb⟩ := queueSim_real h r
  have hmask : maskedSim z lab e ql r = shown (fun j => ql j ≠ lab r) u := by
    funext j
    unfold maskedSim shown
    rw [hu]
  have htop : tops (fun j => ql j ≠ lab r) u (order (maskedSim z lab e ql r)) = topSim z lab e ql r := by
    funext i
    unfold tops topSim
    rw [← hmask]
  have hraw : (fun i : Fin 256 => ((u (i.castLE (by norm_num)) : ℝ) : EReal)) = fun i => queueSim z e r (i.castLE (by norm_num)) :=
    funext fun i => (hu _).symm
  have hs := order_antitone (maskedSim z lab e ql r)
  have key := chosen_reindexed (fun j => ql j ≠ lab r) u (order (maskedSim z lab e ql r)) (hmask ▸ hs) entry v
    (fun k => by
      rw [hv, hsc]
      unfold masked
      by_cases hq : ql (entry k) = lab r <;> simp only [hq, ne_eq, not_true_eq_false, not_false_eq_true, if_true, if_false])
    hb (fun i : Fin 256 => u (i.castLE (by norm_num)))
  rw [htop, hraw] at key
  simp only [hsc]
  exact key

end Cert.Loss
-- ==== Proof.KernelIdeal.Value.lean ====
/- The kernel's output is the loss. -/
module

public import proofs.«01_k».proof.Proof.KernelIdeal.Blocks
public import proofs.«01_k».proof.Proof.KernelIdeal.Rows
public import proofs.«01_k».proof.Proof.Loss

@[expose] public section

set_option maxRecDepth 16384

noncomputable section

namespace Cert.KernelIdeal.Value

open Cert Cert.Model Cert.Loss Cert.Hard Cert.Scalars Cert.KernelIdeal Cert.KernelIdeal.Gen Cert.KernelIdeal.Run Cert.KernelIdeal.Rows
  Cert.KernelIdeal.Blocks
open Idealize.ShloMosaic Idealize.ShloMosaic.TcCoe Idealize.SL.Sem

variable (m : (ℓ : Loc nD τ sig) → Buf (Elt Ideal) ℓ)

/-- The normalized projections of the arguments. -/
def zed (c : Dev nD) : Fin 256 → Fin 128 → EReal :=
  unit (proj (fun r l => m ((c : Thread nD τ).loc main_arg0) (ix2 r l)) (fun l k => m ((c : Thread nD τ).loc main_arg2) (ix2 l k))
    (fun k => m ((c : Thread nD τ).loc main_arg3) (ix1 k)) (fun k d => m ((c : Thread nD τ).loc main_arg4) (ix2 k d))
    (fun d => m ((c : Thread nD τ).loc main_arg5) (ix1 d)))
/-- The anchors' labels. -/
def labels (c : Dev nD) : Fin 256 → BitVec 32 := fun r => m ((c : Thread nD τ).loc main_arg1) (ix1 r)
/-- The queue. -/
def queue (c : Dev nD) : Fin 65536 → Fin 128 → EReal := fun j d => m ((c : Thread nD τ).loc main_arg6) (ix2 j d)
/-- The queue's labels. -/
def queueLabels (c : Dev nD) : Fin 65536 → BitVec 32 := fun j => m ((c : Thread nD τ).loc main_arg7) (ix1 j)

/-- The kept projections. -/
theorem zOf_at (c : Dev nD) (r : Fin 256) (d : Fin 128) : zOf m c (ix2 r d) = zed m c r d := by
  unfold zOf zed
  rw [unit_at]
  simp only [block0, block3, block4, block5, block6]

/-- The scaled projections. -/
theorem zqOf_at (c : Dev nD) (r : Fin 256) (d : Fin 128) : zqOf m c (ix2 r d) = zed m c r d * (scale : EReal) := by
  rw [← zOf_at]
  unfold zqOf zOf
  rw [scaled_at]
  rfl

/-- The slabs hold the scaled similarities, masked. -/
theorem row_at (c : Dev nD) (r : Fin 256) (i : Fin 16 × Fin 4096) :
    row (qOf m c) r i = if queueLabels m c (entry i) = labels m c r then ⊥
      else ∑ d, (zed m c r d * (scale : EReal)) * queue m c (entry i) d := by
  have h : row (qOf m c) r i = tileOf m c i.1.val (ix3 0 r i.2) := by
    unfold row qOf
    refine congrArg (tileOf m c i.1.val) (funext fun a => ?_)
    fin_cases a <;> rfl
  rw [h]
  unfold tileOf
  rw [tile_at, block1, block8 m c i.1 i.2 (entry i) (entry_val i)]
  simp only [zqOf_at, block7 m c i.1 i.2 _ (entry i) (entry_val i)]
  rfl

/-- The kept similarities to the first 256 entries. -/
theorem raw_row (c : Dev nD) (r x : Fin 256) :
    qrawOf m c (ix2 r x) = ∑ d, (zed m c r d * (scale : EReal)) * queue m c (x.castLE (by norm_num)) d := by
  unfold qrawOf
  rw [raw_at]
  refine Finset.sum_congr rfl fun d _ => ?_
  rw [zqOf_at]
  exact congrArg _ (block7 m c 0 ⟨x.val, by omega⟩ d (x.castLE (by norm_num)) (by simp))

/-- The count of ones over the first `n` tiles. -/
def ones (c : Dev nD) (n : ℕ) : EReal := onesOf m c n (ix2 0 0)

/-- A running sum, at its end. -/
theorem running {N : ℕ} (a : ℕ → EReal) (f : Fin N → EReal) (h0 : a 0 = 0) (hs : ∀ n (hn : n < N), a (n + 1) = a n + f ⟨n, hn⟩) :
    a N = ∑ k, f k := by
  have h : ∀ n (hn : n ≤ N), a n = ∑ k : Fin n, f (k.castLE hn) := fun n hn => by
    induction n with
    | zero => simpa using h0
    | succ n ih =>
      rw [hs n hn, ih (by omega), Fin.sum_univ_castSucc]
      rfl
  exact h N le_rfl

/-- The count, tile by tile. -/
theorem ones_tiles (c : Dev nD) :
    ones m c 16 = ∑ k : Fin 16, ∑ l : Fin 4096, (((queueLabels m c (entry (k, l))).toInt : ℝ) : EReal) := by
  refine running (ones m c) _ zero_at fun n hn => ?_
  refine (ones_at (iblk m c 8 (pt n)) (onesOf m c n)).trans (congrArg (fun b : EReal => ones m c n + b) (Finset.sum_congr rfl fun l _ => ?_))
  exact congrArg (fun b : BitVec 32 => ((b.toInt : ℝ) : EReal)) (block8 m c ⟨n, hn⟩ l (entry (⟨n, hn⟩, l)) (entry_val _))

/-- All the ones. -/
theorem ones_eq (c : Dev nD) (h : ∀ j, queueLabels m c j = 0#32 ∨ queueLabels m c j = 1#32) :
    ones m c 16 = (((Finset.univ.filter fun j => queueLabels m c j = 1#32).card : ℝ) : EReal) := by
  rw [ones_tiles, ← Search.sum_indicator, ← Equiv.sum_comp entry]
  refine (sum_slabs (fun j l => (((queueLabels m c (entry (j, l))).toInt : ℝ) : EReal))).symm.trans ?_
  refine Finset.sum_congr rfl fun i _ => ?_
  rcases h (entry i) with hq | hq
  · rw [hq, if_neg (by decide)]
    simp
  · rw [hq, if_pos rfl]
    simp

/-- The kernel's result is the loss of the arguments. -/
theorem value (c : Dev nD) (h : Bounded (zed m c) (labels m c) (queue m c) (queueLabels m c)) :
    outOf m c (ix2 0 0) = loss (zed m c) (labels m c) (queue m c) (queueLabels m c) := by
  have hlogit : ∀ r c', sim (zOf m c) r c' = logit (zed m c) r c' := fun r c' => by
    unfold sim logit
    rw [mul_inv_temp]
    simp only [zOf_at]
  have hoth : ∀ r, others (iblk m c 1 (pt 16)) (ones m c 16) r = ((opposite (labels m c) (queueLabels m c) r : ℝ) : EReal) := fun r => by
    rw [opposite_eq h]
    unfold others
    rw [block1, ones_eq m c h.ql_bit]
    rfl
  have hrow : ∀ r, chosen ((opposite (labels m c) (queueLabels m c) r : ℝ) : EReal)
      (∑ x : Fin 256, Ideal.exp2 (∑ d, (zed m c r d * (scale : EReal)) * queue m c (x.castLE (by norm_num)) d))
      (∑ i, Ideal.exp2 (row (qOf m c) r i))
      ((∑ i, if (passes (qOf m c) (k0_pay1 (F := Ideal), k0_pay2 (F := Ideal), k0_pay3 (F := Ideal)) 11).2.1 (ix2 r 0) ≤ row (qOf m c) r i then
          Ideal.exp2 (row (qOf m c) r i) else 0)
        + max (Ideal.ofBits .f32 0x43800000#32 - (passes (qOf m c) (k0_pay1 (F := Ideal), k0_pay2 (F := Ideal), k0_pay3 (F := Ideal)) 11).2.2 (ix2 r 0)) 0
          * Ideal.exp2 ((passes (qOf m c) (k0_pay1 (F := Ideal), k0_pay2 (F := Ideal), k0_pay3 (F := Ideal)) 11).1 (ix2 r 0)))
      = hard (zed m c) (labels m c) (queue m c) (queueLabels m c) r := fun r => by
    have key := (chosen_hard h r (row (qOf m c) r) (row_at m c r)).1
    have hst : at3 (passes (qOf m c) (k0_pay1 (F := Ideal), k0_pay2 (F := Ideal), k0_pay3 (F := Ideal)) 11) r
        = (step (row (qOf m c) r))^[11] (((-(51 / 50 * scale) : ℝ) : EReal), ((51 / 50 * scale : ℝ) : EReal), 0) := by
      rw [passes_at, start_at]
      rfl
    rw [← hst] at key
    exact key
  have hones : onesOf m c 16 (ix2 0 0) = ones m c 16 := rfl
  unfold outOf endOut
  rw [mean_at]
  unfold loss mean term
  simp only [term_at, block1, block2, hlogit, hones, hoth, raw_row, high_at, all_at]
  simp only [hrow]
  rfl

end Cert.KernelIdeal.Value
-- ==== Proof.Drawn.lean ====
/- What the precondition says of the arguments: labels are 0 or 1, the projections are real rows of length at most 1, and
   the queue's rows are real, of squared length at most 1.02. -/
module

public import proofs.«01_k».proof.Defs
public import proofs.«01_k».proof.Proof.Gen.Pre_drawn
public import proofs.«01_k».proof.Proof.KernelIdeal.Value

@[expose] public section

set_option maxRecDepth 16384

noncomputable section

namespace Cert.Drawn

open Cert.Model Cert.Loss Cert.Reals Cert.Scalars
open Idealize.ShloMosaic Idealize.ShloMosaic.TcCoe Idealize.SL.Sem

/-- The test of a label: it is 0 or 1. -/
theorem bit_of {a : BitVec 32} (h : IntOp.ori (IntOp.cmpi .eq a 0#32) (IntOp.cmpi .eq a 1#32) = 1#1) : a = 0#32 ∨ a = 1#32 := by
  by_contra hn
  obtain ⟨h0, h1⟩ := not_or.1 hn
  have e0 : IntOp.cmpi .eq a 0#32 = 0#1 := congrArg BitVec.ofBool (beq_eq_false_iff_ne.2 h0)
  have e1 : IntOp.cmpi .eq a 1#32 = 0#1 := congrArg BitVec.ofBool (beq_eq_false_iff_ne.2 h1)
  rw [e0, e1] at h
  exact absurd h (by decide)

/-- A test that succeeds says what it tests. -/
theorem true_of {p : Prop} [Decidable p] (h : BitVec.ofBool (decide p) = 1#1) : p := by
  by_contra hn
  rw [decide_eq_false hn] at h
  exact absurd h (by decide)

/-- The test of a number: it is real. -/
theorem real_of {a : EReal} (h : BitVec.ofBool (decide (max a (-a) < Ideal.ofBits .f32 0x7F800000#32)) = 1#1) : IsReal a := by
  have hi : Ideal.ofBits .f32 0x7F800000#32 = ⊤ := by simp [Ideal.ofBits, Ideal.ieee]
  exact isReal_of_abs (hi ▸ true_of h)

/-- The test of a row: it is real, of squared length at most 1.02. -/
theorem row_of {f : Fin 128 → EReal} (h : BitVec.ofBool (decide (∑ d, f d * f d ≤ Ideal.ofBits .f32 0x3F828F5C#32)) = 1#1) :
    ∃ y : Fin 128 → ℝ, (∀ d, f d = ((y d : ℝ) : EReal)) ∧ ∑ d, y d ^ 2 ≤ 103 / 100 := by
  obtain ⟨b, hb, hb'⟩ := bound_eq
  have h' := true_of h
  rw [hb'] at h'
  choose y hy using isReal_of_sq h'
  refine ⟨y, hy, le_trans (EReal.coe_le_coe_iff.1 ?_) hb⟩
  rw [coe_sum]
  refine (Finset.sum_congr rfl fun d _ => ?_).trans_le h'
  rw [hy, ← EReal.coe_mul, sq]

/-- The printed test of the queue's rows, at one row. -/
theorem row_test (a6 : FVec Ideal Cert.Pre_drawn.S65536x128 .f32) (hr) (hu) (hb) (j : Fin 65536)
    (h : cmpf .ole (Host.reduceAdd (axes := [1]) (t := Cert.Pre_drawn.S65536) (mulf a6 a6) (constant Cert.Pre_drawn.S_ .f32 0x00000000#32) hr hu)
      (broadcastInDim Cert.Pre_drawn.S65536 ![] hb (constant Cert.Pre_drawn.S_ .f32 0x3F828F5C#32)) (ix1 j) = 1#1) :
    BitVec.ofBool (decide (∑ d, a6 (ix2 j d) * a6 (ix2 j d) ≤ Ideal.ofBits .f32 0x3F828F5C#32)) = 1#1 := by
  revert h
  pointwise
  exact id

open Cert.KernelIdeal in
/-- The precondition gives what the value claim needs. -/
theorem bounded [Cert.Pre_drawn.Facts] (m : (ℓ : Loc nD τ sig) → Buf (Elt Ideal) ℓ) (h : Cert.Pre_KernelIdeal_drawn m) (c : Dev nD) :
    Bounded (Value.zed m c) (Value.labels m c) (Value.queue m c) (Value.queueLabels m c) := by
  obtain ⟨h1, h7, h0, h2, h3, h4, h5, h6⟩ := h c
  have hrow : ∀ j, ∃ y : Fin 128 → ℝ, (∀ d, Value.queue m c j d = ((y d : ℝ) : EReal)) ∧ ∑ d, y d ^ 2 ≤ 103 / 100 :=
    fun j => row_of (row_test _ _ _ _ j (congrFun h6 (ix1 j)))
  choose y hy hy1 using hrow
  exact
    { z_real := unit_real (proj_real (fun r l => real_of (congrFun h0 (ix2 r l))) (fun l k => real_of (congrFun h2 (ix2 l k)))
        (fun k => real_of (congrFun h3 (ix1 k))) (fun k d => real_of (congrFun h4 (ix2 k d))) (fun d => real_of (congrFun h5 (ix1 d))))
      e_real := ⟨y, hy, hy1⟩
      lab_bit := fun r => bit_of (congrFun h1 (ix1 r))
      ql_bit := fun j => bit_of (congrFun h7 (ix1 j)) }

end Cert.Drawn
-- ==== Proof.ReferenceIdeal.Value.lean ====
/- What the reference's intermediate arrays hold, entry by entry. -/
module

public import proofs.«01_k».proof.Proof.Gen.ReferenceIdeal.Run
public import proofs.«01_k».proof.Proof.Loss
public import Idealize.ShloMosaic.Lib.Pointwise
public import Idealize.ShloMosaic.Lib.IndicatorCount
public import Idealize.ShloMosaic.Lib.StableHlo.Predicate
public import Idealize.ShloMosaic.Lib.Tactic.CleanTypes

@[expose] public section

set_option maxRecDepth 16384

noncomputable section

namespace Cert.ReferenceIdeal.Rows

open Cert Cert.Model Cert.Loss Cert.Hard Cert.Scalars Cert.Sorted Cert.Reals Cert.ReferenceIdeal Cert.ReferenceIdeal.Gen Cert.ReferenceIdeal.Value
open Idealize.ShloMosaic Idealize.ShloMosaic.TcCoe Idealize.SL.Sem

variable (V0 : Valuation τ sig (Elt Ideal))

/-- The normalized projections of the arguments. -/
def zed : Fin 256 → Fin 128 → EReal :=
  unit (proj (fun r l => V0 (Proc.devRef .tc main_arg0) (ix2 r l)) (fun l k => V0 (Proc.devRef .tc main_arg2) (ix2 l k))
    (fun k => V0 (Proc.devRef .tc main_arg3) (ix1 k)) (fun k d => V0 (Proc.devRef .tc main_arg4) (ix2 k d))
    (fun d => V0 (Proc.devRef .tc main_arg5) (ix1 d)))
/-- The anchors' labels. -/
def labels : Fin 256 → BitVec 32 := fun r => V0 (Proc.devRef .tc main_arg1) (ix1 r)
/-- The queue. -/
def queue : Fin 65536 → Fin 128 → EReal := fun j d => V0 (Proc.devRef .tc main_arg6) (ix2 j d)
/-- The queue's labels. -/
def queueLabels : Fin 65536 → BitVec 32 := fun j => V0 (Proc.devRef .tc main_arg7) (ix1 j)

/-- The reference normalizes the projections. -/
theorem z_at (r : Fin 256) (d : Fin 128) : res_main_v18 V0 (ix2 r d) = zed V0 r d := by
  pointwise [res_main_v18, res_main_v10]
  rfl

/-- 7, as printed. -/
theorem seven : Ideal.ofBits .f32 0x40E00000#32 = ((7 : ℝ) : EReal) := by
  simp [Ideal.ofBits, Ideal.ieee, -EReal.coe_mul]; norm_num
/-- 100, as printed. -/
theorem hundred : Ideal.ofBits .f32 0x42C80000#32 = ((100 : ℝ) : EReal) := by
  simp [Ideal.ofBits, Ideal.ieee, -EReal.coe_mul]; norm_num
/-- 51, as printed. -/
theorem fifty_one : Ideal.ofBits .f32 0x424C0000#32 = ((51 : ℝ) : EReal) := by
  simp [Ideal.ofBits, Ideal.ieee, -EReal.coe_mul]; norm_num
/-- 50, as printed. -/
theorem fifty : Ideal.ofBits .f32 0x42480000#32 = ((50 : ℝ) : EReal) := by
  simp [Ideal.ofBits, Ideal.ieee, -EReal.coe_mul]; norm_num
/-- 1024, as printed. -/
theorem half_cells : Ideal.ofBits .f32 0x44800000#32 = ((1024 : ℝ) : EReal) := by
  simp [Ideal.ofBits, Ideal.ieee, -EReal.coe_mul]; norm_num
/-- −∞, as printed. -/
theorem minus_inf : Ideal.ofBits .f32 0xFF800000#32 = ⊥ := by
  simp [Ideal.ofBits, Ideal.ieee]

/-- The temperature. -/
theorem temp : Ideal.div (Ideal.ofBits .f32 0x40E00000#32) (Ideal.ofBits .f32 0x42C80000#32) = ((7 / 100 : ℝ) : EReal) := by
  rw [seven, hundred, div_real _ _ (by norm_num)]
/-- The end of the similarities' range. -/
theorem edge : Ideal.div (Ideal.ofBits .f32 0x424C0000#32) (Ideal.ofBits .f32 0x42480000#32) = ((51 / 50 : ℝ) : EReal) := by
  rw [fifty_one, fifty, div_real _ _ (by norm_num)]

/-- Two anchors' similarity, over the temperature. -/
theorem logit_at (r c : Fin 256) : res_main_v23 V0 (ix2 r c) = logit (zed V0) r c := by
  pointwise [res_main_v23, res_main_v0]
  show Ideal.div _ (Ideal.div (Ideal.ofBits .f32 0x40E00000#32) (Ideal.ofBits .f32 0x42C80000#32)) = _
  rw [temp]
  simp only [z_at]
  rfl

/-- An anchor's similarity to a queue entry. -/
theorem queueSim_at (r : Fin 256) (j : Fin 65536) : res_main_v38 V0 (ix2 r j) = queueSim (zed V0) (queue V0) r j := by
  pointwise [res_main_v38]
  simp only [z_at]
  rfl

/-- The test for different words. -/
theorem ne_at (a b : BitVec 32) : IntOp.cmpi .ne a b = if a = b then 0#1 else 1#1 := by
  show BitVec.ofBool (a != b) = _
  by_cases h : a = b
  · rw [if_pos h, bne_eq_false_iff_eq.2 h]
    rfl
  · rw [if_neg h, bne_iff_ne.2 h]
    rfl

/-- The test for equal words. -/
theorem eq_at (a b : BitVec 32) : IntOp.cmpi .eq a b = if a = b then 1#1 else 0#1 := by
  show BitVec.ofBool (a == b) = _
  by_cases h : a = b
  · rw [if_pos h, beq_iff_eq.2 h]
    rfl
  · rw [if_neg h, beq_eq_false_iff_ne.2 h]
    rfl

/-- A selection by a bit that says `p`. -/
theorem select_iff {α : Type} {p : Prop} [Decidable p] {b : BitVec 1} (h : b = 1#1 ↔ p) (x y : α) :
    Scalar.select b x y = if p then x else y := if_congr h rfl rfl

/-- Equivalent conditions count alike. -/
theorem card_iff {n : ℕ} (p q : Fin n → Prop) [DecidablePred p] [DecidablePred q] (h : ∀ j, p j ↔ q j) :
    (Finset.univ.filter p).card = (Finset.univ.filter q).card :=
  congrArg Finset.card (Finset.filter_congr fun j _ => h j)

/-- The mask of the entries of the other label; the test against 0 says nothing of a label that is 0 or 1. -/
theorem opp_at (r : Fin 256) (j : Fin 65536) (h : queueLabels V0 j = 0#32 ∨ queueLabels V0 j = 1#32) :
    res_main_v48 V0 (ix2 r j) = 1#1 ↔ queueLabels V0 j ≠ labels V0 r := by
  pointwise [res_main_v48]
  show IntOp.andi (IntOp.cmpi .ne (queueLabels V0 j) (labels V0 r)) (IntOp.cmpi .sge (queueLabels V0 j) 0#32) = 1#1 ↔ _
  have hs : IntOp.cmpi .sge (queueLabels V0 j) 0#32 = 1#1 := by rcases h with h | h <;> rw [h] <;> rfl
  rw [hs]
  rw [ne_at]
  by_cases e : queueLabels V0 j = labels V0 r <;> simp [IntOp.andi, e]

/-- The count of those entries. -/
theorem count_at (h : ∀ j, queueLabels V0 j = 0#32 ∨ queueLabels V0 j = 1#32) (r : Fin 256) :
    (res_main_v50 V0 (ix1 r) : BitVec 32).toNat = opposite (labels V0) (queueLabels V0) r := by
  refine (StableHlo.Predicate.toNat_reduce_count_cols (by norm_num) (res_main_v48 V0) natLt_1_32 reducesTo_S256x65536_S256_d1 h_S_ (ix1 r)).trans ?_
  refine card_iff _ _ fun j => ?_
  have e : StableHlo.Predicate.ij r j = ix2 r j := by funext b; fin_cases b <;> rfl
  exact (iff_of_eq (congrArg (fun i => (res_main_v48 V0 i : BitVec 1) = 1#1) e)).trans (opp_at V0 r j (h j))

/-- It is at most the queue's length. -/
theorem opposite_le (lab : Fin 256 → BitVec 32) (ql : Fin 65536 → BitVec 32) (r : Fin 256) : opposite lab ql r ≤ 65536 :=
  (Finset.card_le_univ _).trans_eq (Fintype.card_fin _)

/-- The masked similarities. -/
theorem masked_at (h : ∀ j, queueLabels V0 j = 0#32 ∨ queueLabels V0 j = 1#32) (r : Fin 256) (j : Fin 65536) :
    res_main_v51 V0 (ix2 r j) = maskedSim (zed V0) (labels V0) (queue V0) (queueLabels V0) r j := by
  pointwise [res_main_v51]
  show Scalar.select _ _ (Ideal.ofBits .f32 0xFF800000#32) = _
  rw [minus_inf, queueSim_at]
  exact select_iff (opp_at V0 r j (h j)) _ _

/-- The 256 greatest of them. -/
theorem top_at (h : ∀ j, queueLabels V0 j = 0#32 ∨ queueLabels V0 j = 1#32) (r i : Fin 256) :
    res_main_values V0 (ix2 r i) = topSim (zed V0) (labels V0) (queue V0) (queueLabels V0) r i := by
  unfold topSim
  refine (topK_row (by norm_num) (res_main_v51 V0) _ r i).trans ?_
  rw [masked_at V0 h, show (fun j => (res_main_v51 V0 (ix2 r j) : EReal)) = maskedSim (zed V0) (labels V0) (queue V0) (queueLabels V0) r from
    funext fun j => masked_at V0 h r j]

/-- The end of the range, as a scalar. -/
theorem edge_at : id (res_main_v1 V0) ix0 = ((51 / 50 : ℝ) : EReal) := by
  pointwise [res_main_v1]
  exact edge

/-- The temperature, as a scalar. -/
theorem temp_at : id (res_main_v0 V0) ix0 = ((7 / 100 : ℝ) : EReal) := by
  pointwise [res_main_v0]
  exact temp

/-- The cell of the 256th. -/
theorem cell_at (r : Fin 256) : res_main_v61 V0 (ix2 r 0) = cell (res_main_values V0 (ix2 r 255)) := by
  pointwise [res_main_v61]
  rw [edge_at, half_cells]
  rfl

/-- The signed test whether there are more than `k` such entries. -/
theorem some_at (h : ∀ j, queueLabels V0 j = 0#32 ∨ queueLabels V0 j = 1#32) (r : Fin 256) (k : ℕ) (hk : k < 2 ^ 31) :
    IntOp.cmpi .sgt (res_main_v50 V0 (ix1 r) : BitVec 32) (BitVec.ofNat 32 k) = 1#1 ↔ k < opposite (labels V0) (queueLabels V0) r := by
  have hN := opposite_le (labels V0) (queueLabels V0) r
  have hc := count_at V0 h r
  rw [StableHlo.Predicate.sgt_iff_toNat (by omega) (by rw [BitVec.toNat_ofNat]; omega), hc, BitVec.toNat_ofNat,
    Nat.mod_eq_of_lt (by omega)]

/-- The logarithm of the sum over the hard negatives. -/
theorem hard_at (h : ∀ j, queueLabels V0 j = 0#32 ∨ queueLabels V0 j = 1#32) (r : Fin 256) :
    res_main_v97 V0 (ix1 r) = Ideal.log (hard (zed V0) (labels V0) (queue V0) (queueLabels V0) r) := by
  have h0 := some_at V0 h r 0 (by norm_num)
  have h1 := some_at V0 h r 256 (by norm_num)
  pointwise [res_main_v97]
  rw [edge_at, temp_at, half_cells, cell_at]
  refine congrArg Ideal.log (Finset.sum_congr rfl fun x _ => ?_)
  refine congrArg (fun t => Ideal.exp (Ideal.div t ((7 / 100 : ℝ) : EReal))) ?_
  refine (select_iff h0 _ _).trans (if_congr Iff.rfl ((select_iff h1 _ _).trans (if_congr Iff.rfl ?_ (top_at V0 h r x))) (queueSim_at V0 r _))
  rw [top_at V0 h, top_at V0 h]
  rfl

/-- The logarithm of the sum over the anchors of the other label. -/
theorem negatives_at (r : Fin 256) :
    res_main_v101 V0 (ix1 r) = Ideal.log (∑ x, if labels V0 r = labels V0 x then 0 else Ideal.exp (logit (zed V0) r x)) := by
  pointwise [res_main_v101, res_main_v28]
  refine congrArg Ideal.log (Finset.sum_congr rfl fun x _ => ?_)
  show Ideal.exp (Scalar.select (~~~IntOp.cmpi .eq (labels V0 r) (labels V0 x)) _ (Ideal.ofBits .f32 0xFF800000#32)) = _
  rw [minus_inf, logit_at, eq_at]
  by_cases e : labels V0 r = labels V0 x
  · rw [if_pos e, if_pos e]
    exact Ideal.exp_bot
  · rw [if_neg e, if_neg e]
    rfl

/-- The mask of the pairs. -/
theorem pair_at (r c : Fin 256) : res_main_v35 V0 (ix2 r c) = 1#1 ↔ labels V0 r = labels V0 c ∧ r ≠ c := by
  pointwise [res_main_v35, res_main_v28]
  show IntOp.andi (IntOp.cmpi .eq (labels V0 r) (labels V0 c)) (~~~IntOp.cmpi .eq (IntOp.addi (BitVec.ofNat 32 r) 0#32) (BitVec.ofNat 32 c))
    = 1#1 ↔ _
  have hi : IntOp.addi (BitVec.ofNat 32 r) 0#32 = BitVec.ofNat 32 c ↔ r = c := by
    constructor
    · intro e
      have := congrArg BitVec.toNat e
      simp [IntOp.addi] at this
      omega
    · rintro rfl
      simp [IntOp.addi]
  rw [eq_at, eq_at]
  simp only [hi]
  by_cases e : labels V0 r = labels V0 c <;> by_cases e' : r = c <;> simp [IntOp.andi, e, e']

/-- The count of the pairs. -/
theorem pairs_at : res_main_v132 V0 ix0 = ∑ r, ∑ c, if labels V0 r = labels V0 c ∧ r ≠ c then (1 : EReal) else 0 := by
  unfold res_main_v132
  clean_types
  pointwise
  rw [IndicatorCount.fold_addi_setWidth_eq_card]
  have hN : (Finset.univ.filter fun k : Fin 256 × Fin 256 => res_main_v35 V0 (ix2 k.1 k.2) = 1#1).card ≤ 65536 :=
    (Finset.card_le_univ _).trans_eq (by rw [Fintype.card_prod, Fintype.card_fin])
  show (((BitVec.ofNat 32 _).toInt : ℝ) : EReal) = _
  rw [StableHlo.Predicate.toInt_ofNat_small _ (by omega), Int.cast_natCast, ← Search.sum_indicator, Fintype.sum_prod_type]
  exact Finset.sum_congr rfl fun r _ => Finset.sum_congr rfl fun c _ => if_congr (pair_at V0 r c) rfl rfl

end Cert.ReferenceIdeal.Rows
-- ==== Proof.ReferenceIdeal.Result.lean ====
/- The reference's result is the loss. -/
module

public import proofs.«01_k».proof.Proof.ReferenceIdeal.Value

@[expose] public section

set_option maxRecDepth 16384

noncomputable section

namespace Cert.ReferenceIdeal.Result

open Cert Cert.Model Cert.Loss Cert.Hard Cert.Scalars Cert.Sorted Cert.Reals Cert.ReferenceIdeal Cert.ReferenceIdeal.Gen Cert.ReferenceIdeal.Value
open Cert.ReferenceIdeal.Rows
open Idealize.ShloMosaic Idealize.ShloMosaic.TcCoe Idealize.SL.Sem

variable (V0 : Valuation τ sig (Elt Ideal))

/-- The logarithm of an anchor's two sums together. -/
theorem both_at (r : Fin 256) : res_main_v112 V0 (ix2 r 0) = logAddExp (res_main_v101 V0 (ix1 r)) (res_main_v97 V0 (ix1 r)) := by
  pointwise [res_main_v112, res_main_v103]
  rfl

/-- 0, as printed. -/
theorem zero_at : id (constant (F := Ideal) S_ .f32 0x00000000#32) ix0 = (0 : EReal) := by
  show Ideal.ofBits .f32 0x00000000#32 = 0
  simp [Ideal.ofBits, Ideal.ieee]

/-- A pair's summand. -/
theorem term_at (h : Bounded (zed V0) (labels V0) (queue V0) (queueLabels V0)) (r c : Fin 256) :
    -(logit (zed V0) r c - logAddExp (logit (zed V0) r c) (logAddExp (res_main_v101 V0 (ix1 r)) (res_main_v97 V0 (ix1 r))))
      = term (zed V0) (labels V0) (hard (zed V0) (labels V0) (queue V0) (queueLabels V0)) r c := by
  obtain ⟨s, hs⟩ := logit_real h r c
  obtain ⟨B, hB, hH⟩ := (chosen_hard h r (fun i => if queueLabels V0 (entry i) = labels V0 r then ⊥
    else ∑ d, (zed V0 r d * (scale : EReal)) * queue V0 (entry i) d) fun _ => rfl).2
  obtain ⟨A, hA, hN⟩ : ∃ A : ℝ, 0 ≤ A ∧ (∑ x, if labels V0 r = labels V0 x then 0 else Ideal.exp (logit (zed V0) r x)) = (A : EReal) := by
    choose t ht using fun x => logit_real h r x
    refine ⟨∑ x, if labels V0 r = labels V0 x then 0 else Real.exp (t x), Finset.sum_nonneg fun x _ => ?_, ?_⟩
    · split_ifs
      · exact le_rfl
      · exact (Real.exp_pos _).le
    · rw [coe_sum]
      refine Finset.sum_congr rfl fun x _ => ?_
      rw [ht, Ideal.exp_coe]
      split_ifs <;> rfl
  rw [negatives_at, hard_at V0 h.ql_bit]
  unfold term
  rw [hN, hH, hs, logAddExp_log A B hA hB, Ideal.exp_coe, ← EReal.coe_add, ← EReal.coe_add]
  conv_lhs => rw [log_exp s, logAddExp_log _ _ (Real.exp_pos s).le (add_pos_of_nonneg_of_pos hA hB)]
  rw [← log_exp s, Ideal.log_coe, if_neg (not_le.2 (add_pos (Real.exp_pos s) (add_pos_of_nonneg_of_pos hA hB))),
    ← EReal.coe_sub, ← EReal.coe_sub, ← EReal.coe_neg, neg_sub]

/-- The reference's result. -/
def result : FVec Ideal S_ .f32 := select (cmpf .ogt (res_main_v132 V0) (constant S_ .f32 0x00000000#32)) (Host.divf (Host.reduceAdd (select (res_main_v35 V0) (Host.negf (subf (res_main_v23 V0) (select (cmpf .une (res_main_v116 V0) (res_main_v116 V0)) (addf (res_main_v23 V0) (broadcastInDim S256x256 ![0, 1] bcast_S256x1_S256x256_0_1 (res_main_v112 V0))) (addf (maximumf (res_main_v23 V0) (broadcastInDim S256x256 ![0, 1] bcast_S256x1_S256x256_0_1 (res_main_v112 V0))) (Host.log1p (Host.exp (Host.negf (Host.absf (res_main_v116 V0)))))))))  (broadcastInDim S256x256 ![] bcast_S_S256x256 (id (constant S_ .f32 0x00000000#32)))) (constant S_ .f32 0x00000000#32) reducesTo_S256x256_S_d0_1 h_S_) (maximumf (res_main_v132 V0) (constant S_ .f32 0x3F800000#32))) (id (constant S_ .f32 0x00000000#32))

/-- The reference's result is the loss. -/
theorem value (h : Bounded (zed V0) (labels V0) (queue V0) (queueLabels V0)) :
    result V0 ix0 = loss (zed V0) (labels V0) (queue V0) (queueLabels V0) := by
  pointwise [result, res_main_v116]
  rw [zero_at, pairs_at]
  unfold loss mean
  refine if_congr Iff.rfl (congrArg (fun t => Ideal.div t _) ?_) rfl
  refine Finset.sum_congr rfl fun r _ => Finset.sum_congr rfl fun c _ => ?_
  refine (select_iff (pair_at V0 r c) _ _).trans (if_congr Iff.rfl ?_ rfl)
  rw [← term_at V0 h r c, ← both_at, ← logit_at]
  rfl

/-- The same, of the result as an array. -/
theorem whole (h : Bounded (zed V0) (labels V0) (queue V0) (queueLabels V0)) :
    result V0 = fun _ => loss (zed V0) (labels V0) (queue V0) (queueLabels V0) :=
  funext fun i => (congrArg (result V0) (funext fun a => a.elim0)).trans (value V0 h)

end Cert.ReferenceIdeal.Result
-- ==== Proof.Algebraic.lean ====
/- The value claim: the idealized kernel and the reference end with the same loss. -/
module

public import proofs.«01_k».proof.Defs
public import proofs.«01_k».proof.Proof.Gen.Pre_drawn
public import proofs.«01_k».proof.Proof.Gen.ReferenceIdeal.Run
public import proofs.«01_k».proof.Proof.KernelIdeal.Frame
public import proofs.«01_k».proof.Proof.Drawn
public import proofs.«01_k».proof.Proof.ReferenceIdeal.Result
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Run

/-- A reshape between one-element arrays keeps the element. -/
theorem one_element (x : FVec Ideal S1x1 .f32) (i : S_.Idx) : shapeCast S_ x shapeCasts_S1x1_S_ i = x (ix2 0 0) := by
  rw [show i = ix0 from funext fun a => a.elim0]
  pointwise

/-- The kernel's result is its one-element output array, reshaped. -/
theorem tail_at (m : (ℓ : Loc nD τ sig) → Buf (Elt Ideal) ℓ) (c : Dev nD) :
    Pipeline.afterTail₀ cfgs (dats m) 0 (V0 m) [hostOps1] c main_v6 = fun _ => outOf m c (ix2 0 0) := by
  have h : Pipeline.withArrays spec0 c (V0 m c) (fun w => (dats m 0 c).arrAt w (cfgs 0).N) (Proc.devRef .tc main_v5) = outOf m c :=
    (Pipeline.withArrays_arr spec0 (by decide) c (V0 m c) (fun w => (dats m 0 c).arrAt w (cfgs 0).N) 9).trans (Blocks.final m c)
  unfold Pipeline.afterTail₀
  show StableHlo.after hostOps1 _ _ = _
  after_results_simp
  funext i
  exact (one_element _ i).trans (congrFun h (ix2 0 0))

end Cert.KernelIdeal.Value

namespace Cert.Proof

/-- Equal arguments have equal projections. -/
theorem proj_congr {x x' : Fin 256 → Fin 768 → EReal} {w1 w1' : Fin 768 → Fin 768 → EReal} {b1 b1' : Fin 768 → EReal}
    {w2 w2' : Fin 768 → Fin 128 → EReal} {b2 b2' : Fin 128 → EReal} (hx : ∀ r l, x r l = x' r l) (hw1 : ∀ l k, w1 l k = w1' l k)
    (hb1 : ∀ k, b1 k = b1' k) (hw2 : ∀ k d, w2 k d = w2' k d) (hb2 : ∀ d, b2 d = b2' d) :
    Cert.Model.proj x w1 b1 w2 b2 = Cert.Model.proj x' w1' b1' w2' b2' := by
  obtain rfl : x = x' := funext fun r => funext (hx r)
  obtain rfl : w1 = w1' := funext fun r => funext (hw1 r)
  obtain rfl : b1 = b1' := funext hb1
  obtain rfl : w2 = w2' := funext fun r => funext (hw2 r)
  obtain rfl : b2 = b2' := funext hb2
  rfl

/-- The reference's result, from the kernel's arguments. -/
theorem reference_value (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hb : Cert.Loss.Bounded (Cert.KernelIdeal.Value.zed m c) (Cert.KernelIdeal.Value.labels m c)
      (Cert.KernelIdeal.Value.queue m c) (Cert.KernelIdeal.Value.queueLabels m c))
    (hz : Cert.ReferenceIdeal.Rows.zed V0 = Cert.KernelIdeal.Value.zed m c)
    (hl : Cert.ReferenceIdeal.Rows.labels V0 = Cert.KernelIdeal.Value.labels m c)
    (hq : Cert.ReferenceIdeal.Rows.queue V0 = Cert.KernelIdeal.Value.queue m c)
    (hql : Cert.ReferenceIdeal.Rows.queueLabels V0 = Cert.KernelIdeal.Value.queueLabels m c) :
    Cert.ReferenceIdeal.Result.result V0 = fun _ => Cert.Loss.loss (Cert.KernelIdeal.Value.zed m c) (Cert.KernelIdeal.Value.labels m c)
      (Cert.KernelIdeal.Value.queue m c) (Cert.KernelIdeal.Value.queueLabels m c) := by
  rw [← hz, ← hl, ← hq, ← hql] at hb ⊢
  exact Cert.ReferenceIdeal.Result.whole V0 hb

/-- Under the precondition both end with the loss of the arguments. -/
theorem algebraic : Cert.algebraic_KernelIdeal_ReferenceIdeal_pre_drawn := by
  intro m g m' g' hpre hargs
  refine ⟨fun c _ => Cert.Loss.loss (Cert.KernelIdeal.Value.zed m c) (Cert.KernelIdeal.Value.labels m c)
    (Cert.KernelIdeal.Value.queue m c) (Cert.KernelIdeal.Value.queueLabels m c), ?_, ?_⟩
  · refine (θ_run Cert.KernelIdeal.defs _ _).mono (fun r h c => ⟨?_, h.2.1 c⟩)
      (θ_run_and (Cert.KernelIdeal.Run.run_main m g) (Cert.KernelIdeal.Run.frame m g))
    refine ((h.1 c).2 Cert.KernelIdeal.main_v6 (Pipeline.mem_restRefs_of _ (by decide) (by decide))).trans ?_
    rw [Cert.KernelIdeal.Value.tail_at]
    exact funext fun _ => Cert.KernelIdeal.Value.value m c (Cert.Drawn.bounded m hpre c)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7⟩ := hargs c
    exact reference_value m (StableHlo.launchContents m' c) c (Cert.Drawn.bounded m hpre c)
      (congrArg Cert.Model.unit (proj_congr (fun r l => congrFun e0 (ix2 r l)) (fun l k => congrFun e2 (ix2 l k))
        (fun k => congrFun e3 (ix1 k)) (fun k d => congrFun e4 (ix2 k d)) (fun d => congrFun e5 (ix1 d))))
      (funext fun r => congrFun e1 (ix1 r)) (funext fun j => funext fun d => congrFun e6 (ix2 j d))
      (funext fun j => congrFun e7 (ix1 j))

end Cert.Proof
-- ==== Proof.Near.lean ====
/- The loss without the rounding, and how far the rounded one lies below it. -/
module

public import proofs.«01_k».proof.Proof.Loss

@[expose] public section

set_option maxRecDepth 16384

noncomputable section

namespace Cert.Near

open Idealize.ShloMosaic Cert.Model Cert.Search Cert.Scalars Cert.Sorted Cert.Hard Cert.Reals Cert.Loss

variable (z : Fin 256 → Fin 128 → EReal) (lab : Fin 256 → BitVec 32) (e : Fin 65536 → Fin 128 → EReal) (ql : Fin 65536 → BitVec 32)

/-- What a masked similarity counts as: minus 10⁹. -/
def floor : ℝ := -1000000000

/-- The similarities to the entries of the other label; minus 10⁹ at the rest. -/
def lowSim (r : Fin 256) (j : Fin 65536) : EReal := if ql j ≠ lab r then queueSim z e r j else (floor : EReal)

/-- The 256 greatest of them. -/
def lowTop (r i : Fin 256) : EReal := lowSim z lab e ql r (order (lowSim z lab e ql r) (i.castLE (by norm_num)))

/-- The sum over an anchor's hard negatives, none of them rounded. -/
def hard (r : Fin 256) : EReal :=
  ∑ i : Fin 256, expT (if 0 < opposite lab ql r then lowTop z lab e ql r i else queueSim z e r (i.castLE (by norm_num)))

/-- The sum over the anchors of the other label, the rest counting as minus 10⁹. -/
def negatives (r : Fin 256) : EReal := ∑ x, if lab r = lab x then Ideal.exp (floor : EReal) else Ideal.exp (logit z r x)

/-- A pair's term. -/
def term (r c : Fin 256) : EReal :=
  Ideal.log (Ideal.exp (logit z r c) + (negatives z lab r + hard z lab e ql r)) - logit z r c

/-- The loss without the rounding. -/
def loss : EReal := mean lab (term z lab e ql)

/-- What a masked hard negative adds to its sum. -/
def speck : ℝ := Real.exp (floor / (7 / 100))

/-- The factor by which the rounding of an exponent lowers an exponential, at most. -/
def ratio : ℝ := Real.exp (51 / 50 / 1024 / (7 / 100))

theorem one_le_ratio : 1 ≤ ratio := Real.one_le_exp (by norm_num)

/-- Two orders that sort the same values from the greatest down give the same values. -/
theorem sorted_unique {n : ℕ} (v : Fin n → EReal) (σ τ : Fin n ≃ Fin n) (hσ : Antitone (v ∘ σ)) (hτ : Antitone (v ∘ τ)) (i : Fin n) :
    v (σ i) = v (τ i) := by
  have h : ∀ x, x ≤ v (σ i) ↔ x ≤ v (τ i) := fun x =>
    (prefix_card v σ hσ (fun y => x ≤ y) (fun _ _ hxy h => h.trans hxy) i).trans
      (prefix_card v τ hτ (fun y => x ≤ y) (fun _ _ hxy h => h.trans hxy) i).symm
  exact le_antisymm ((h _).1 le_rfl) ((h _).2 le_rfl)

/-- The ends of a real number's cell: the lower one is at most the number, and the upper one is 1.02 / 1024 above it. -/
theorem cell_ends (t : ℝ) : ∃ b : ℝ, b ≤ t ∧ cellEnd (cell (t : EReal)) = (b : EReal)
    ∧ cellEnd (cell (t : EReal) + 1) = ((b + 51 / 50 / 1024 : ℝ) : EReal) := by
  set n : ℤ := ⌊(t + 51 / 50) * 1024 / (51 / 50 : ℝ)⌋ with hn
  have hc : cell (t : EReal) = ((n : ℝ) : EReal) := by
    unfold cell
    rw [← EReal.coe_add, ← EReal.coe_mul, div_real _ _ (by norm_num), Ideal.liftRound_coe]
  have h1 : ((n : ℝ) : EReal) + 1 = ((n + 1 : ℝ) : EReal) := by rw [EReal.coe_add]; rfl
  refine ⟨n * (51 / 50) / 1024 - 51 / 50, ?_, ?_, ?_⟩
  · have := Int.floor_le ((t + 51 / 50) * 1024 / (51 / 50 : ℝ))
    rw [← hn, le_div_iff₀ (by norm_num)] at this
    linarith
  · unfold cellEnd
    rw [hc, ← EReal.coe_mul, div_real _ _ (by norm_num), ← EReal.coe_sub]
  · unfold cellEnd
    rw [hc, h1, ← EReal.coe_mul, div_real _ _ (by norm_num), ← EReal.coe_sub]
    congr 1
    ring

/-- A sum of reals between, up to a factor and a speck apiece, those of another. -/
theorem sum_near {ι : Type} [Fintype ι] (f g : ι → EReal) (k s : ℝ)
    (h : ∀ i, ∃ a b : ℝ, f i = (a : EReal) ∧ g i = (b : EReal) ∧ 0 ≤ a ∧ a ≤ b ∧ b ≤ k * a + s) :
    ∃ A B : ℝ, ∑ i, f i = (A : EReal) ∧ ∑ i, g i = (B : EReal) ∧ 0 ≤ A ∧ A ≤ B ∧ B ≤ k * A + Fintype.card ι * s := by
  choose a b hf hg h0 h1 h2 using h
  refine ⟨∑ i, a i, ∑ i, b i, ?_, ?_, Finset.sum_nonneg fun i _ => h0 i, Finset.sum_le_sum fun i _ => h1 i, ?_⟩
  · rw [coe_sum]; exact Finset.sum_congr rfl fun i _ => hf i
  · rw [coe_sum]; exact Finset.sum_congr rfl fun i _ => hg i
  · refine (Finset.sum_le_sum fun i _ => h2 i).trans_eq ?_
    rw [Finset.sum_add_distrib, ← Finset.mul_sum, Finset.sum_const, Finset.card_univ, nsmul_eq_mul]

variable {z lab e ql}

/-- The 256 greatest with the low mask are the 256 greatest with the mask at `⊥`, raised to minus 10⁹ where they lie below. -/
theorem lowTop_eq (h : Bounded z lab e ql) (r i : Fin 256) : lowTop z lab e ql r i = max (topSim z lab e ql r i) (floor : EReal) := by
  obtain ⟨u, hu, -, hb⟩ := queueSim_real h r
  have hrow : lowSim z lab e ql r = (fun x => max x (floor : EReal)) ∘ maskedSim z lab e ql r := by
    funext j
    unfold lowSim maskedSim
    simp only [Function.comp]
    split_ifs
    · rw [hu, max_eq_left]
      refine EReal.coe_le_coe_iff.2 (le_trans ?_ (hb j).1)
      unfold floor
      norm_num
    · exact (max_eq_right bot_le).symm
  have hm : Monotone fun x : EReal => max x (floor : EReal) := fun x y hxy => max_le_max_right _ hxy
  have ha : Antitone (lowSim z lab e ql r ∘ order (maskedSim z lab e ql r)) := by
    rw [hrow, Function.comp_assoc]
    exact hm.comp_antitone (order_antitone _)
  have := sorted_unique (lowSim z lab e ql r) _ _ (order_antitone (lowSim z lab e ql r)) ha (i.castLE (by norm_num))
  unfold lowTop topSim
  exact this.trans (congrFun hrow _)

/-- One hard negative, rounded and not. -/
theorem one_hard (h : Bounded z lab e ql) (r i : Fin 256) : ∃ a b : ℝ,
    expT (hardVal (opposite lab ql r) (topSim z lab e ql r) (fun i => queueSim z e r (i.castLE (by norm_num))) i) = (a : EReal)
    ∧ expT (if 0 < opposite lab ql r then lowTop z lab e ql r i else queueSim z e r (i.castLE (by norm_num))) = (b : EReal)
    ∧ 0 ≤ a ∧ a ≤ b ∧ b ≤ ratio * a + speck := by
  obtain ⟨u, hu, -, hb⟩ := queueSim_real h r
  have hs : 0 ≤ speck := (Real.exp_pos _).le
  have hk : ∀ a : ℝ, 0 ≤ a → a ≤ ratio * a + speck := fun a ha => by nlinarith [one_le_ratio]
  have same : ∀ t : ℝ, ∃ a b : ℝ, expT (t : EReal) = (a : EReal) ∧ expT (t : EReal) = (b : EReal) ∧ 0 ≤ a ∧ a ≤ b ∧ b ≤ ratio * a + speck :=
    fun t => ⟨_, _, expT_real t, expT_real t, (Real.exp_pos _).le, le_rfl, hk _ (Real.exp_pos _).le⟩
  have hmask : maskedSim z lab e ql r = shown (fun j => ql j ≠ lab r) u := by
    funext j
    unfold maskedSim shown
    rw [hu]
  have htop : ∀ k, topSim z lab e ql r k = tops (fun j => ql j ≠ lab r) u (order (maskedSim z lab e ql r)) k := fun k => by
    unfold tops topSim
    rw [← hmask]
  have hcase : ∀ k, topSim z lab e ql r k = ⊥ ∨ ∃ t : ℝ, topSim z lab e ql r k = (t : EReal) ∧ floor ≤ t := fun k => by
    unfold topSim maskedSim
    split_ifs
    · refine Or.inr ⟨_, hu _, le_trans ?_ (hb _).1⟩
      unfold floor
      norm_num
    · exact Or.inl rfl
  unfold hardVal
  by_cases h0 : 0 < opposite lab ql r
  · rw [if_pos h0, if_pos h0, lowTop_eq h]
    by_cases hn : 256 < opposite lab ql r
    · have real : ∀ k : Fin 256, ∃ t : ℝ, topSim z lab e ql r k = (t : EReal) := fun k => by
        obtain ⟨t, ht⟩ := tops_real (fun j => ql j ≠ lab r) u (order (maskedSim z lab e ql r)) (hmask ▸ order_antitone _) k
          (lt_trans k.isLt hn)
        exact ⟨t, (htop k).trans ht⟩
      obtain ⟨t, ht⟩ := real 255
      obtain ⟨v, hv⟩ := real i
      have hvf : floor ≤ v := by
        rcases hcase i with hc | ⟨w, hw, hw'⟩
        · rw [hv] at hc
          exact absurd hc (EReal.coe_ne_bot v)
        · rw [hv] at hw
          exact (EReal.coe_eq_coe_iff.1 hw) ▸ hw'
      have htv : t ≤ v := by
        have : topSim z lab e ql r 255 ≤ topSim z lab e ql r i := order_antitone (maskedSim z lab e ql r)
          (show (i.castLE (by norm_num) : Fin 65536) ≤ ((255 : Fin 256).castLE (by norm_num)) from by
            have := i.isLt
            show i.val ≤ 255
            omega)
        rw [ht, hv] at this
        exact EReal.coe_le_coe_iff.1 this
      obtain ⟨b, hbt, hlo, hhi⟩ := cell_ends t
      rw [if_pos hn, ht, hlo, hhi, hv, max_eq_left (EReal.coe_le_coe_iff.2 hvf)]
      by_cases hc : b + 51 / 50 / 1024 ≤ v
      · rw [if_pos (EReal.coe_le_coe_iff.2 hc)]
        exact same v
      · rw [if_neg fun h' => hc (EReal.coe_le_coe_iff.1 h')]
        refine ⟨_, _, expT_real b, expT_real v, (Real.exp_pos _).le, Real.exp_le_exp.2 ?_, ?_⟩
        · exact div_le_div_of_nonneg_right (hbt.trans htv) (by norm_num)
        · have : Real.exp (v / (7 / 100)) ≤ ratio * Real.exp (b / (7 / 100)) := by
            unfold ratio
            rw [← Real.exp_add, ← add_div]
            exact Real.exp_le_exp.2 (div_le_div_of_nonneg_right (by linarith) (by norm_num))
          linarith
    · rw [if_neg hn]
      rcases hcase i with hc | ⟨t, ht, hf⟩
      · rw [hc, max_eq_right bot_le]
        exact ⟨0, _, expT_bot, expT_real floor, le_rfl, (Real.exp_pos _).le, by rw [mul_zero, zero_add]; exact le_rfl⟩
      · rw [ht, max_eq_left (EReal.coe_le_coe_iff.2 hf)]
        exact same t
  · rw [if_neg h0, if_neg h0]
    simp only [hu]
    exact same _

/-- One anchor among the negatives, masked at `⊥` and at minus 10⁹. -/
theorem one_negative (h : Bounded z lab e ql) (r x : Fin 256) : ∃ a b : ℝ,
    (if lab r = lab x then 0 else Ideal.exp (logit z r x)) = (a : EReal)
    ∧ (if lab r = lab x then Ideal.exp (floor : EReal) else Ideal.exp (logit z r x)) = (b : EReal)
    ∧ 0 ≤ a ∧ a ≤ b ∧ b ≤ 1 * a + Real.exp floor := by
  obtain ⟨s, hs⟩ := logit_real h r x
  have hp := Real.exp_pos floor
  by_cases hl : lab r = lab x
  · rw [if_pos hl, if_pos hl]
    exact ⟨0, _, rfl, Ideal.exp_coe _, le_rfl, hp.le, by linarith⟩
  · rw [if_neg hl, if_neg hl, hs]
    exact ⟨_, _, Ideal.exp_coe _, Ideal.exp_coe _, (Real.exp_pos _).le, le_rfl, by linarith⟩

/-- A logit is at least −15. -/
theorem logit_low (h : Bounded z lab e ql) (r c : Fin 256) : ∃ s : ℝ, logit z r c = (s : EReal) ∧ -15 ≤ s := by
  obtain ⟨x, hx, hx1⟩ := h.z_real
  refine ⟨(∑ d, x r d * x c d) / (7 / 100), ?_, ?_⟩
  · unfold logit
    rw [← div_real (∑ d, x r d * x c d) (7 / 100) (by norm_num), coe_sum]
    congr 1
    exact Finset.sum_congr rfl fun d _ => by rw [hx, hx, ← EReal.coe_mul]
  · rw [le_div_iff₀ (by norm_num)]
    have := (dot_bound (x r) (x c) (hx1 r) ((hx1 c).trans (by norm_num))).1
    linarith

/-- The specks are nothing beside the least exponential of a logit. -/
theorem specks : 256 * Real.exp floor + 256 * speck ≤ 1 / 1000 * Real.exp (-15) := by
  have h1 : speck ≤ Real.exp floor := Real.exp_le_exp.2 (by unfold floor; norm_num)
  have h2 : Real.exp floor = Real.exp (-999999985) * Real.exp (-15) := by
    rw [← Real.exp_add]
    unfold floor
    norm_num
  have h3 : Real.exp (-999999985) ≤ 1 / 1000000 := by
    rw [Real.exp_neg, one_div]
    refine inv_anti₀ (by norm_num) ?_
    have := Real.add_one_le_exp (999999985 : ℝ)
    linarith
  have h4 := Real.exp_pos (-15)
  nlinarith

/-- The factor and the specks together stay below 1/64, as an exponent. -/
theorem factor : ratio + 1 / 1000 ≤ Real.exp (1 / 64) := by
  have h : Real.exp (1 / 64) = ratio * Real.exp (1 / 64 - 51 / 50 / 1024 / (7 / 100)) := by
    unfold ratio
    rw [← Real.exp_add]
    congr 1
    ring
  have h1 := Real.add_one_le_exp (1 / 64 - 51 / 50 / 1024 / (7 / 100) : ℝ)
  have h2 := one_le_ratio
  rw [h]
  nlinarith

/-- A pair's term, rounded and not. -/
theorem term_near (h : Bounded z lab e ql) (r c : Fin 256) : ∃ a b : ℝ,
    Loss.term z lab (Loss.hard z lab e ql) r c = (a : EReal) ∧ term z lab e ql r c = (b : EReal) ∧ a ≤ b ∧ b ≤ a + 1 / 64 := by
  obtain ⟨s, hs, hs'⟩ := logit_low h r c
  obtain ⟨H, H', hH, hH', hH0, hH1, hH2⟩ := sum_near _ _ ratio speck (one_hard h r)
  obtain ⟨A, A', hA, hA', hA0, hA1, hA2⟩ := sum_near _ _ 1 (Real.exp floor) (one_negative h r)
  have hE := Real.exp_pos s
  have hE' : Real.exp (-15) ≤ Real.exp s := Real.exp_le_exp.2 hs'
  have hl : Loss.term z lab (Loss.hard z lab e ql) r c = ((Real.log (Real.exp s + (A + H)) - s : ℝ) : EReal) := by
    unfold Loss.term Loss.hard
    rw [hH, hA, hs, Ideal.exp_coe, ← EReal.coe_add, ← EReal.coe_add, Ideal.log_coe, if_neg (by linarith), ← EReal.coe_sub]
  have hl' : term z lab e ql r c = ((Real.log (Real.exp s + (A' + H')) - s : ℝ) : EReal) := by
    unfold term hard negatives
    rw [hH', hA', hs, Ideal.exp_coe, ← EReal.coe_add, ← EReal.coe_add, Ideal.log_coe, if_neg (by linarith), ← EReal.coe_sub]
  refine ⟨_, _, hl, hl', ?_, ?_⟩
  · have := Real.log_le_log (show 0 < Real.exp s + (A + H) by linarith) (show Real.exp s + (A + H) ≤ Real.exp s + (A' + H') by linarith)
    linarith
  · have hle : Real.exp s + (A' + H') ≤ Real.exp (1 / 64) * (Real.exp s + (A + H)) := by
      have h1 := specks
      have h2 := factor
      have h3 := one_le_ratio
      have hc : (Fintype.card (Fin 256) : ℝ) = 256 := by rw [Fintype.card_fin]; norm_num
      rw [hc] at hH2 hA2
      have h4 : (ratio + 1 / 1000) * (Real.exp s + (A + H)) ≤ Real.exp (1 / 64) * (Real.exp s + (A + H)) :=
        mul_le_mul_of_nonneg_right h2 (by linarith)
      nlinarith [mul_nonneg (sub_nonneg.2 h3) hA0, mul_nonneg (sub_nonneg.2 h3) hE.le]
    have := Real.log_le_log (show 0 < Real.exp s + (A' + H') by linarith) hle
    rw [Real.log_mul (Real.exp_pos _).ne' (by linarith), Real.log_exp] at this
    linarith

/-- A pair's term, with the sums' logarithms added as logarithms. -/
theorem term_eq (h : Bounded z lab e ql) (r c : Fin 256) :
    -(logit z r c - logAddExp (logit z r c) (logAddExp (Ideal.log (negatives z lab r)) (Ideal.log (hard z lab e ql r)))) = term z lab e ql r c := by
  obtain ⟨s, hs, -⟩ := logit_low h r c
  obtain ⟨B, hB, hB'⟩ := (chosen_hard h r (fun i => if ql (entry i) = lab r then ⊥ else ∑ d, (z r d * (scale : EReal)) * e (entry i) d) fun _ => rfl).2
  obtain ⟨H, H', hH, hH', -, hH1, -⟩ := sum_near _ _ ratio speck (one_hard h r)
  obtain ⟨A, A', -, hA', hA0, hA1, -⟩ := sum_near _ _ 1 (Real.exp floor) (one_negative h r)
  have hHB : H = B := EReal.coe_eq_coe_iff.1 (hH.symm.trans hB')
  have hH0 : 0 < H' := lt_of_lt_of_le (hHB ▸ hB) hH1
  have hN0 : 0 ≤ A' := hA0.trans hA1
  have e1 : negatives z lab r = (A' : EReal) := hA'
  have e2 : hard z lab e ql r = (H' : EReal) := hH'
  unfold term
  rw [e1, e2, hs, logAddExp_log A' H' hN0 hH0, Ideal.exp_coe, ← EReal.coe_add, ← EReal.coe_add]
  conv_lhs => rw [log_exp s, logAddExp_log _ _ (Real.exp_pos s).le (add_pos_of_nonneg_of_pos hN0 hH0)]
  rw [← log_exp s, Ideal.log_coe, if_neg (not_le.2 (add_pos (Real.exp_pos s) (add_pos_of_nonneg_of_pos hN0 hH0))),
    ← EReal.coe_sub, ← EReal.coe_sub, ← EReal.coe_neg, neg_sub]

/-- The means of terms that lie within 1/64 of each other do too. -/
theorem mean_near (t t' : Fin 256 → Fin 256 → EReal)
    (h : ∀ r c, ∃ a b : ℝ, t r c = (a : EReal) ∧ t' r c = (b : EReal) ∧ a ≤ b ∧ b ≤ a + 1 / 64) :
    ∃ a b : ℝ, mean lab t = (a : EReal) ∧ mean lab t' = (b : EReal) ∧ a ≤ b ∧ b ≤ a + 1 / 64 := by
  choose x y hx hy h1 h2 using h
  set N : ℝ := ∑ r : Fin 256, ∑ c : Fin 256, if lab r = lab c ∧ r ≠ c then 1 else 0 with hN
  have push : ∀ (f : Fin 256 → Fin 256 → EReal) (g : Fin 256 → Fin 256 → ℝ), (∀ r c, f r c = (g r c : EReal)) →
      (∑ r, ∑ c, if lab r = lab c ∧ r ≠ c then f r c else 0) = ((∑ r, ∑ c, if lab r = lab c ∧ r ≠ c then g r c else 0 : ℝ) : EReal) :=
    fun f g hfg => by
      rw [coe_sum]
      refine Finset.sum_congr rfl fun r _ => ?_
      rw [coe_sum]
      refine Finset.sum_congr rfl fun c _ => ?_
      rw [hfg]
      split_ifs <;> rfl
  have hc := push (fun _ _ => 1) (fun _ _ => 1) fun _ _ => rfl
  unfold mean
  rw [hc, push t x hx, push t' y hy, ← hN]
  by_cases hp : (0 : EReal) < (N : EReal)
  · rw [if_pos hp, if_pos hp]
    have hmax : max (N : EReal) 1 = ((max N 1 : ℝ) : EReal) := (EReal.coe_strictMono.monotone.map_max (a := N) (b := 1)).symm
    have hpos : 0 < max N 1 := lt_max_of_lt_right one_pos
    rw [hmax]
    refine ⟨_, _, div_real _ _ hpos.ne', div_real _ _ hpos.ne', ?_, ?_⟩
    · refine div_le_div_of_nonneg_right (Finset.sum_le_sum fun r _ => Finset.sum_le_sum fun c _ => ?_) hpos.le
      split_ifs
      · exact h1 r c
      · exact le_rfl
    · rw [div_le_iff₀ hpos, add_mul, div_mul_cancel₀ _ hpos.ne']
      have : (∑ r, ∑ c, if lab r = lab c ∧ r ≠ c then y r c else 0)
          ≤ (∑ r, ∑ c, if lab r = lab c ∧ r ≠ c then x r c else 0) + 1 / 64 * N := by
        rw [hN, Finset.mul_sum, ← Finset.sum_add_distrib]
        refine Finset.sum_le_sum fun r _ => ?_
        rw [Finset.mul_sum, ← Finset.sum_add_distrib]
        refine Finset.sum_le_sum fun c _ => ?_
        split_ifs
        · have := h2 r c
          linarith
        · simp
      have := le_max_left N 1
      linarith
  · rw [if_neg hp, if_neg hp]
    exact ⟨0, 0, rfl, rfl, le_rfl, by norm_num⟩

/-- The rounded loss lies below the other by at most 1/64. -/
theorem loss_near (h : Bounded z lab e ql) : ∃ a b : ℝ,
    Loss.loss z lab e ql = (a : EReal) ∧ loss z lab e ql = (b : EReal) ∧ a ≤ b ∧ b ≤ a + 1 / 64 :=
  mean_near _ _ (term_near h)

end Cert.Near
-- ==== Proof.Near.Facts.lean ====
/- The shapes that the test of the loss is printed with fit one another. -/
module

public import proofs.«01_k».proof.Post_near
public import proofs.«01_k».proof.Proof.Gen.ReferenceIdeal

@[expose] public section

noncomputable section

namespace Cert.Post_near

open Idealize.ShloMosaic

/-- Every fact that the test states. -/
instance facts : Facts where
  bcast_S768_S1x768_1 := Cert.ReferenceIdeal.Gen.bcast_S768_S1x768_1
  bcast_S1x768_S256x768_0_1 := Cert.ReferenceIdeal.Gen.bcast_S1x768_S256x768_0_1
  bcast_S_S256x768 := Cert.ReferenceIdeal.Gen.bcast_S_S256x768
  bcast_S128_S1x128_1 := Cert.ReferenceIdeal.Gen.bcast_S128_S1x128_1
  bcast_S1x128_S256x128_0_1 := Cert.ReferenceIdeal.Gen.bcast_S1x128_S256x128_0_1
  reducesTo_S256x128_S256_d1 := Cert.ReferenceIdeal.Gen.reducesTo_S256x128_S256_d1
  h_S_ := Cert.ReferenceIdeal.Gen.h_S_
  bcast_S256_S256x1_0 := Cert.ReferenceIdeal.Gen.bcast_S256_S256x1_0
  bcast_S_S256x1 := Cert.ReferenceIdeal.Gen.bcast_S_S256x1
  bcast_S256x1_S256x128_0_1 := Cert.ReferenceIdeal.Gen.bcast_S256x1_S256x128_0_1
  transposes_S256x128_S128x256_1_0 := Cert.ReferenceIdeal.Gen.transposes_S256x128_S128x256_1_0
  bcast_S_S256x256 := Cert.ReferenceIdeal.Gen.bcast_S_S256x256
  bcast_S256_S1x256_1 := Cert.ReferenceIdeal.Gen.bcast_S256_S1x256_1
  bcast_S256x1_S256x256_0_1 := Cert.ReferenceIdeal.Gen.bcast_S256x1_S256x256_0_1
  bcast_S1x256_S256x256_0_1 := Cert.ReferenceIdeal.Gen.bcast_S1x256_S256x256_0_1
  transposes_S65536x128_S128x65536_1_0 := Cert.ReferenceIdeal.Gen.transposes_S65536x128_S128x65536_1_0
  bcast_S65536_S1x65536_1 := Cert.ReferenceIdeal.Gen.bcast_S65536_S1x65536_1
  bcast_S1x65536_S256x65536_0_1 := Cert.ReferenceIdeal.Gen.bcast_S1x65536_S256x65536_0_1
  bcast_S256x1_S256x65536_0_1 := Cert.ReferenceIdeal.Gen.bcast_S256x1_S256x65536_0_1
  bcast_S_S1x65536 := Cert.ReferenceIdeal.Gen.bcast_S_S1x65536
  natLt_1_32 := Cert.ReferenceIdeal.Gen.natLt_1_32
  reducesTo_S256x65536_S256_d1 := Cert.ReferenceIdeal.Gen.reducesTo_S256x65536_S256_d1
  bcast_S_S256x65536 := Cert.ReferenceIdeal.Gen.bcast_S_S256x65536
  sliceFits_S256x65536_S256x256 := Cert.ReferenceIdeal.Gen.sliceFits_S256x65536_S256x256
  bcast_S_S256 := Cert.ReferenceIdeal.Gen.bcast_S_S256
  slices_S256x65536_S256x256_0_0 := Cert.ReferenceIdeal.Gen.slices_S256x65536_S256x256_0_0
  reducesTo_S256x256_S256_d1 := Cert.ReferenceIdeal.Gen.reducesTo_S256x256_S256_d1
  reducesTo_S256x256_S_d0_1 := Cert.ReferenceIdeal.Gen.reducesTo_S256x256_S_d0_1
  dot_S256x768_S768x768_S256x768_1_0_0_1_n_n_wf := Cert.ReferenceIdeal.Gen.dot_S256x768_S768x768_S256x768_1_0_0_1_n_n_wf
  dot_S256x768_S768x128_S256x128_1_0_0_1_n_n_wf := Cert.ReferenceIdeal.Gen.dot_S256x768_S768x128_S256x128_1_0_0_1_n_n_wf
  dot_S256x128_S128x256_S256x256_1_0_0_1_n_n_wf := Cert.ReferenceIdeal.Gen.dot_S256x128_S128x256_S256x256_1_0_0_1_n_n_wf
  dot_S256x128_S128x65536_S256x65536_1_0_0_1_n_n_wf := Cert.ReferenceIdeal.Gen.dot_S256x128_S128x65536_S256x65536_1_0_0_1_n_n_wf

end Cert.Post_near
-- ==== Proof.Near.Value.lean ====
/- What the test of the loss computes: whether a number lies within 1/64 of the loss without the rounding. -/
module

public import proofs.«01_k».proof.Proof.Near
public import proofs.«01_k».proof.Proof.Near.Facts
public import proofs.«01_k».proof.Proof.ReferenceIdeal.Value

@[expose] public section

set_option maxRecDepth 16384

noncomputable section

namespace Cert.Near.Value

open Cert Cert.Model Cert.Loss Cert.Hard Cert.Scalars Cert.Sorted Cert.Reals Cert.Post_near Cert.Post_near.Facts
open Cert.ReferenceIdeal.Rows (select_iff card_iff ne_at eq_at opposite_le temp)
open Idealize.ShloMosaic Idealize.ShloMosaic.TcCoe

/-- Whether `a` and `b` lie within 1/64 of each other, as a bit. -/
def close (a b : EReal) : BitVec 1 := BitVec.ofBool (decide (max (a - b) (-(a - b)) ≤ Ideal.ofBits .f32 0x3C800000#32))

/-- Along a row. -/
def wide (x : FVec Ideal S256x1 .f32) : FVec Ideal S256x256 .f32 := broadcastInDim S256x256 ![0, 1] bcast_S256x1_S256x256_0_1 x

/-- The count of the pairs. -/
theorem pairs_at (v : IVec S256x256 1) (lab : Fin 256 → BitVec 32) (hp : ∀ r c, v (ix2 r c) = 1#1 ↔ lab r = lab c ∧ r ≠ c) :
    (sitofp (F := Ideal) .f32 (Host.reduce IntOp.addi ((extui 32 · natLt_1_32) v) (constantI S_ 32 0#32) reducesTo_S256x256_S_d0_1 h_S_)
        : FVec Ideal S_ .f32) ix0
      = ∑ r, ∑ c, if lab r = lab c ∧ r ≠ c then (1 : EReal) else 0 := by
  clean_types
  pointwise
  rw [IndicatorCount.fold_addi_setWidth_eq_card]
  have hN : (Finset.univ.filter fun k : Fin 256 × Fin 256 => v (ix2 k.1 k.2) = 1#1).card ≤ 65536 :=
    (Finset.card_le_univ _).trans_eq (by rw [Fintype.card_prod, Fintype.card_fin])
  show (((BitVec.ofNat 32 _).toInt : ℝ) : EReal) = _
  rw [StableHlo.Predicate.toInt_ofNat_small _ (by omega), Int.cast_natCast, ← Search.sum_indicator, Fintype.sum_prod_type]
  exact Finset.sum_congr rfl fun r _ => Finset.sum_congr rfl fun c _ => if_congr (hp r c) rfl rfl

/-- The logarithm of the sum of two arrays' exponentials, as the test prints it. -/
def added {s : Shape} (x y : FVec Ideal s .f32) : FVec Ideal s .f32 :=
  select (cmpf .une (subf x y) (subf x y)) (addf x y) (addf (maximumf x y) (Host.log1p (Host.exp (Host.negf (Host.absf (subf x y))))))

/-- It is taken entry by entry. -/
theorem added_at {s : Shape} (x y : FVec Ideal s .f32) (i : s.Idx) : added x y i = logAddExp (x i) (y i) := by
  pointwise [added]
  rfl

/-- A choice by the bits of `p` between an array and a number. -/
theorem where_at (v : IVec S256x256 1) (x : FVec Ideal S256x256 .f32) (b : BitVec 32) (r c : Fin 256) :
    fn_where_1 (F := Ideal) v x (constant S_ .f32 b) (ix2 r c) = if v (ix2 r c) = 1#1 then x (ix2 r c) else Ideal.ofBits .f32 b := by
  pointwise [fn_where_1]
  rfl

/-- 0, as printed. -/
theorem zero : Ideal.ofBits .f32 0x00000000#32 = 0 := by
  simp [Ideal.ofBits, Ideal.ieee]

/-- Minus 10⁹, as printed. -/
theorem low : Ideal.ofBits .f32 0xCE6E6B28#32 = (floor : EReal) := by
  simp [Ideal.ofBits, Ideal.ieee, floor, -EReal.coe_mul]; norm_num

/-- The last operations, of the count of the pairs and their summands. -/
theorem part5_at (a n : FVec Ideal S_ .f32) (x : FVec Ideal S256x256 .f32) :
    fn_part5 (F := Ideal) a (cmpf .ogt n (constant S_ .f32 0x00000000#32))
        (Host.divf (Host.reduceAdd x (constant S_ .f32 0x00000000#32) reducesTo_S256x256_S_d0_1 h_S_) (maximumf n (constant S_ .f32 0x3F800000#32)))
        (constant S_ .f32 0x00000000#32) ix0
      = close (a ix0) (if 0 < n ix0 then Ideal.div (∑ r, ∑ c, x (ix2 r c)) (max (n ix0) 1) else 0) := by
  pointwise [fn_part5, fn_where_2]
  show close (a ix0) (if _ then _ else Ideal.ofBits .f32 0x00000000#32) = _
  rw [zero]

/-- The last operations: the mean of the pairs' terms, and its distance from the number. -/
theorem part4_at (a : FVec Ideal S_ .f32) (v22 : FVec Ideal S256x256 .f32) (v34 : IVec S256x256 1) (v76 : FVec Ideal S256x1 .f32)
    (lab : Fin 256 → BitVec 32) (hp : ∀ r c, v34 (ix2 r c) = 1#1 ↔ lab r = lab c ∧ r ≠ c) :
    fn_part4 (F := Ideal) a v22 v34 v76 (maximumf v22 (wide v76)) (subf v22 (wide v76)) (cmpf .une (subf v22 (wide v76)) (subf v22 (wide v76))) ix0
      = close (a ix0) (mean lab fun r c => -(v22 (ix2 r c) - logAddExp (v22 (ix2 r c)) (v76 (ix2 r 0)))) := by
  refine (part5_at a _ (fn_where_1 v34 (Host.negf (subf v22 (added v22 (wide v76)))) (constant S_ .f32 0x00000000#32))).trans ?_
  rw [pairs_at v34 lab hp]
  unfold mean
  refine congrArg (close (a ix0)) (if_congr Iff.rfl (congrArg (fun t => Ideal.div t _) ?_) rfl)
  refine Finset.sum_congr rfl fun r _ => Finset.sum_congr rfl fun c _ => ?_
  rw [where_at, zero]
  refine if_congr (hp r c) ?_ rfl
  show -(v22 (ix2 r c) - added v22 (wide v76) (ix2 r c)) = _
  rw [added_at]
  pointwise [wide]

/-- The logarithm of an anchor's two sums together, as the test prints it. -/
def both (v22 : FVec Ideal S256x256 .f32) (v35 : IVec S256x256 1) (v59 : FVec Ideal S256x256 .f32) : FVec Ideal S256x1 .f32 :=
  broadcastInDim S256x1 ![0] bcast_S256_S256x1_0 (added
    (Host.log (Host.reduceAdd (Host.exp (fn_where_1 v35 v22 (constant S_ .f32 0xCE6E6B28#32))) (constant S_ .f32 0x00000000#32) reducesTo_S256x256_S256_d1 h_S_))
    (Host.log (Host.reduceAdd v59 (constant S_ .f32 0x00000000#32) reducesTo_S256x256_S256_d1 h_S_)))

/-- It is that. -/
theorem both_at (v22 : FVec Ideal S256x256 .f32) (v35 : IVec S256x256 1) (v59 : FVec Ideal S256x256 .f32) (r : Fin 256) :
    both v22 v35 v59 (ix2 r 0) = logAddExp
      (Ideal.log (∑ x, Ideal.exp (fn_where_1 (F := Ideal) v35 v22 (constant S_ .f32 0xCE6E6B28#32) (ix2 r x)))) (Ideal.log (∑ x, v59 (ix2 r x))) := by
  unfold both
  generalize fn_where_1 (F := Ideal) v35 v22 (constant S_ .f32 0xCE6E6B28#32) = w
  pointwise
  rw [added_at]
  pointwise

/-- The sums over an anchor's negatives, from the exponentials of its hard ones. -/
theorem part3_at (a : FVec Ideal S_ .f32) (v22 : FVec Ideal S256x256 .f32) (v34 v35 : IVec S256x256 1) (v59 : FVec Ideal S256x256 .f32)
    (lab : Fin 256 → BitVec 32) (hp : ∀ r c, v34 (ix2 r c) = 1#1 ↔ lab r = lab c ∧ r ≠ c) (hn : ∀ r c, v35 (ix2 r c) = 1#1 ↔ lab r ≠ lab c) :
    fn_part3 (F := Ideal) a v22 v34 v35 v59 (constant S_ .f32 0x00000000#32) ix0
      = close (a ix0) (mean lab fun r c => -(v22 (ix2 r c) - logAddExp (v22 (ix2 r c)) (logAddExp
          (Ideal.log (∑ x, if lab r = lab x then Ideal.exp (floor : EReal) else Ideal.exp (v22 (ix2 r x)))) (Ideal.log (∑ x, v59 (ix2 r x)))))) := by
  have e : fn_part3 (F := Ideal) a v22 v34 v35 v59 (constant S_ .f32 0x00000000#32)
      = fn_part4 a v22 v34 (both v22 v35 v59) (maximumf v22 (wide (both v22 v35 v59))) (subf v22 (wide (both v22 v35 v59)))
          (cmpf .une (subf v22 (wide (both v22 v35 v59))) (subf v22 (wide (both v22 v35 v59)))) := by
    unfold fn_part3 both added wide
    rfl
  rw [e, part4_at a v22 v34 (both v22 v35 v59) lab hp]
  refine congrArg (close (a ix0)) (congrArg (mean lab) (funext fun r => funext fun c => ?_))
  refine congrArg (fun t => -(v22 (ix2 r c) - logAddExp (v22 (ix2 r c)) t)) ?_
  rw [both_at]
  refine congrArg (fun t => logAddExp (Ideal.log t) _) (Finset.sum_congr rfl fun x _ => ?_)
  rw [where_at, low]
  by_cases h : lab r = lab x
  · rw [if_neg fun h' => (hn r x).1 h' h, if_pos h]
  · rw [if_pos ((hn r x).2 h), if_neg h]

/-- The mask of the entries of the other label, from the test for different labels. -/
def apart (v42 : IVec S256x65536 1) (q : IVec S65536 32) : IVec S256x65536 1 :=
  andi v42 (broadcastInDim S256x65536 ![0, 1] bcast_S1x65536_S256x65536_0_1
    (cmpi .sge (broadcastInDim S1x65536 ![1] bcast_S65536_S1x65536_1 q) (broadcastInDim S1x65536 ![] bcast_S_S1x65536 (constantI S_ 32 0#32))))

/-- The test against 0 says nothing of a label that is 0 or 1. -/
theorem apart_at (v42 : IVec S256x65536 1) (q : IVec S65536 32) (r : Fin 256) (j : Fin 65536) (h : q (ix1 j) = 0#32 ∨ q (ix1 j) = 1#32) :
    apart v42 q (ix2 r j) = v42 (ix2 r j) := by
  pointwise [apart]
  show IntOp.andi (v42 (ix2 r j)) (IntOp.cmpi .sge (q (ix1 j)) 0#32) = _
  have hs : IntOp.cmpi .sge (q (ix1 j)) 0#32 = 1#1 := by rcases h with h | h <;> rw [h] <;> rfl
  rw [hs]
  show v42 (ix2 r j) &&& 1#1 = _
  generalize v42 (ix2 r j) = b
  revert b
  decide

section part2

variable (v : IVec S256x65536 1) (lab : Fin 256 → BitVec 32) (ql : Fin 65536 → BitVec 32) (hv : ∀ r j, v (ix2 r j) = 1#1 ↔ ql j ≠ lab r)

/-- The count of the entries of the other label. -/
def counted : IVec S256 32 := Host.reduce IntOp.addi (extui 32 v natLt_1_32) (constantI S_ 32 0#32) reducesTo_S256x65536_S256_d1 h_S_

include hv

/-- It counts them. -/
theorem counted_at (r : Fin 256) : (counted v (ix1 r) : BitVec 32).toNat = opposite lab ql r := by
  refine (StableHlo.Predicate.toNat_reduce_count_cols (by norm_num) v natLt_1_32 reducesTo_S256x65536_S256_d1 h_S_ (ix1 r)).trans ?_
  refine card_iff _ _ fun j => ?_
  have e : StableHlo.Predicate.ij r j = ix2 r j := by funext b; fin_cases b <;> rfl
  exact (iff_of_eq (congrArg (fun i => (v i : BitVec 1) = 1#1) e)).trans (hv r j)

/-- The test whether there are any. -/
theorem some_at (r : Fin 256) : IntOp.cmpi .sgt (counted v (ix1 r) : BitVec 32) 0#32 = 1#1 ↔ 0 < opposite lab ql r := by
  have hN := opposite_le lab ql r
  have hc := counted_at v lab ql hv r
  rw [StableHlo.Predicate.sgt_iff_toNat (by omega) (by decide), hc]
  rfl

variable (z : Fin 256 → Fin 128 → EReal) (e : Fin 65536 → Fin 128 → EReal) (x : FVec Ideal S256x65536 .f32) (hx : ∀ r j, x (ix2 r j) = queueSim z e r j)

include hx

/-- The masked similarities. -/
theorem low_at (r : Fin 256) (j : Fin 65536) : fn_where (F := Ideal) v x (constant S_ .f32 0xCE6E6B28#32) (ix2 r j) = lowSim z lab e ql r j := by
  pointwise [fn_where]
  show Scalar.select _ _ (Ideal.ofBits .f32 0xCE6E6B28#32) = _
  rw [low, hx]
  exact select_iff (hv r j) _ _

/-- The 256 greatest of them. -/
theorem top_at (r i : Fin 256) :
    (Host.topK S256x256 1 (FloatOps.cmpfTotal (F := Ideal) (φ := .f32) .gt) (fn_where (F := Ideal) v x (constant S_ .f32 0xCE6E6B28#32))
      sliceFits_S256x65536_S256x256).1 (ix2 r i) = lowTop z lab e ql r i := by
  unfold lowTop
  refine (topK_row (by norm_num) (fn_where (F := Ideal) v x (constant S_ .f32 0xCE6E6B28#32)) _ r i).trans ?_
  rw [low_at v lab ql hv z e x hx, show (fun j => (fn_where (F := Ideal) v x (constant S_ .f32 0xCE6E6B28#32) (ix2 r j) : EReal)) = lowSim z lab e ql r from
    funext fun j => low_at v lab ql hv z e x hx r j]

/-- An anchor's hard negatives, exponentiated. -/
theorem hard_at (t : FVec Ideal S_ .f32) (ht : t ix0 = ((7 / 100 : ℝ) : EReal)) (r i : Fin 256) :
    (Host.exp (Host.divf (fn_where_0 (broadcastInDim S256x1 ![0] bcast_S256_S256x1_0 (cmpi .sgt (counted v) (broadcastInDim S256 ![] bcast_S_S256 (constantI S_ 32 0#32))))
        (Host.topK S256x256 1 (FloatOps.cmpfTotal (F := Ideal) (φ := .f32) .gt) (fn_where (F := Ideal) v x (constant S_ .f32 0xCE6E6B28#32))
          sliceFits_S256x65536_S256x256).1
        (extractStridedSlice S256x256 ![0, 0] x slices_S256x65536_S256x256_0_0)) (broadcastInDim S256x256 ![] bcast_S_S256x256 (id t))) : FVec Ideal S256x256 .f32) (ix2 r i)
      = expT (if 0 < opposite lab ql r then lowTop z lab e ql r i else queueSim z e r (i.castLE (by norm_num))) := by
  have h0 := some_at v lab ql hv r
  have hT := top_at v lab ql hv z e x hx r i
  revert hT
  generalize (Host.topK S256x256 1 (FloatOps.cmpfTotal (F := Ideal) (φ := .f32) .gt) (fn_where (F := Ideal) v x (constant S_ .f32 0xCE6E6B28#32))
    sliceFits_S256x65536_S256x256).1 = top
  intro hT
  pointwise [fn_where_0]
  rw [show id t ix0 = ((7 / 100 : ℝ) : EReal) from ht, hT, hx]
  exact congrArg expT (select_iff h0 _ _)

end part2

/-- From the similarities on: the number's distance from the mean of the terms. -/
theorem part2_at (q : IVec S65536 32) (a t : FVec Ideal S_ .f32) (v22 : FVec Ideal S256x256 .f32) (v34 v35 : IVec S256x256 1)
    (v37 : FVec Ideal S256x65536 .f32) (v42 : IVec S256x65536 1)
    {z : Fin 256 → Fin 128 → EReal} {lab : Fin 256 → BitVec 32} {e : Fin 65536 → Fin 128 → EReal} {ql : Fin 65536 → BitVec 32}
    (hb : Bounded z lab e ql) (hq : ∀ j, q (ix1 j) = ql j) (ht : t ix0 = ((7 / 100 : ℝ) : EReal)) (h22 : ∀ r c, v22 (ix2 r c) = logit z r c)
    (hp : ∀ r c, v34 (ix2 r c) = 1#1 ↔ lab r = lab c ∧ r ≠ c) (hn : ∀ r c, v35 (ix2 r c) = 1#1 ↔ lab r ≠ lab c)
    (h37 : ∀ r j, v37 (ix2 r j) = queueSim z e r j) (h42 : ∀ r j, v42 (ix2 r j) = 1#1 ↔ ql j ≠ lab r) :
    fn_part2 (F := Ideal) q a t v22 v34 v35 v37 v42 ix0 = close (a ix0) (Near.loss z lab e ql) := by
  have hv : ∀ r j, apart v42 q (ix2 r j) = 1#1 ↔ ql j ≠ lab r := fun r j => by
    rw [apart_at v42 q r j (by rw [hq]; exact hb.ql_bit j)]
    exact h42 r j
  have hh := hard_at (apart v42 q) lab ql hv z e v37 h37 t ht
  have e3 : ∃ w : FVec Ideal S256x256 .f32, (∀ r i, w (ix2 r i) = expT (if 0 < opposite lab ql r then lowTop z lab e ql r i else queueSim z e r (i.castLE (by norm_num))))
      ∧ fn_part2 (F := Ideal) q a t v22 v34 v35 v37 v42 = fn_part3 a v22 v34 v35 w (constant S_ .f32 0x00000000#32) := by
    refine ⟨_, hh, ?_⟩
    unfold fn_part2 counted apart
    rfl
  obtain ⟨w, hw, e3⟩ := e3
  rw [e3, part3_at a v22 v34 v35 w lab hp hn]
  unfold Near.loss
  refine congrArg (close (a ix0)) (congrArg (mean lab) (funext fun r => funext fun c => ?_))
  rw [← term_eq hb r c]
  simp only [h22, hw]
  rfl

/-- From the normalized projections on. -/
theorem part1_at (l : IVec S256 32) (y : FVec Ideal S65536x128 .f32) (q : IVec S65536 32) (a t : FVec Ideal S_ .f32) (v17 : FVec Ideal S256x128 .f32)
    {z : Fin 256 → Fin 128 → EReal} {lab : Fin 256 → BitVec 32} {e : Fin 65536 → Fin 128 → EReal} {ql : Fin 65536 → BitVec 32}
    (hb : Bounded z lab e ql) (hl : ∀ r, l (ix1 r) = lab r) (hy : ∀ j d, y (ix2 j d) = e j d) (hq : ∀ j, q (ix1 j) = ql j)
    (ht : t ix0 = ((7 / 100 : ℝ) : EReal)) (h17 : ∀ r d, v17 (ix2 r d) = z r d) :
    fn_part1 (F := Ideal) l y q a t v17 (Host.dotGeneral dot_S256x128_S128x256_S256x256_1_0_0_1_n_n none v17
        (transpose S128x256 [1, 0] v17 transposes_S256x128_S128x256_1_0)) ix0
      = close (a ix0) (Near.loss z lab e ql) := by
  unfold fn_part1
  refine part2_at q a t _ _ _ _ _ hb hq ht (fun r c => ?_) (fun r c => ?_) (fun r c => ?_) (fun r j => ?_) (fun r j => ?_)
  · pointwise
    rw [show id t ix0 = ((7 / 100 : ℝ) : EReal) from ht]
    simp only [h17]
    rfl
  · pointwise
    show IntOp.andi (IntOp.cmpi .eq (l (ix1 r)) (l (ix1 c))) (~~~IntOp.cmpi .eq (IntOp.addi (BitVec.ofNat 32 r) 0#32) (BitVec.ofNat 32 c))
      = 1#1 ↔ _
    have hi : IntOp.addi (BitVec.ofNat 32 r) 0#32 = BitVec.ofNat 32 c ↔ r = c := by
      constructor
      · intro e
        have := congrArg BitVec.toNat e
        simp [IntOp.addi] at this
        omega
      · rintro rfl
        simp [IntOp.addi]
    rw [eq_at, eq_at, hl, hl]
    simp only [hi]
    by_cases e : lab r = lab c <;> by_cases e' : r = c <;> simp [IntOp.andi, e, e']
  · pointwise
    show ~~~IntOp.cmpi .eq (l (ix1 r)) (l (ix1 c)) = 1#1 ↔ _
    rw [eq_at, hl, hl]
    by_cases e : lab r = lab c <;> simp [e]
  · pointwise
    simp only [h17, hy]
    rfl
  · pointwise
    rw [ne_at, hl, hq]
    by_cases e : ql j = lab r <;> simp [e]

/-- The whole test: whether the number lies within 1/64 of the loss of the arguments without the rounding. -/
theorem test_at (x0 : FVec Ideal S256x768 .f32) (x1 : IVec S256 32) (x2 : FVec Ideal S768x768 .f32) (x3 : FVec Ideal S768 .f32)
    (x4 : FVec Ideal S768x128 .f32) (x5 : FVec Ideal S128 .f32) (x6 : FVec Ideal S65536x128 .f32) (x7 : IVec S65536 32) (a : FVec Ideal S_ .f32)
    {z : Fin 256 → Fin 128 → EReal} {lab : Fin 256 → BitVec 32} {e : Fin 65536 → Fin 128 → EReal} {ql : Fin 65536 → BitVec 32}
    (hb : Bounded z lab e ql)
    (hz : ∀ r d, z r d = unit (proj (fun r l => x0 (ix2 r l)) (fun l k => x2 (ix2 l k)) (fun k => x3 (ix1 k)) (fun k d => x4 (ix2 k d)) (fun d => x5 (ix1 d))) r d)
    (hl : ∀ r, x1 (ix1 r) = lab r) (hy : ∀ j d, x6 (ix2 j d) = e j d) (hq : ∀ j, x7 (ix1 j) = ql j) :
    fn (F := Ideal) x0 x1 x2 x3 x4 x5 x6 x7 a ix0 = close (a ix0) (Near.loss z lab e ql) := by
  unfold fn
  refine part1_at x1 x6 x7 a _ _ hb hl hy hq temp fun r d => ?_
  rw [hz]
  pointwise [fn_relu]
  rfl

/-- The rounded loss passes the test. -/
theorem passes {z : Fin 256 → Fin 128 → EReal} {lab : Fin 256 → BitVec 32} {e : Fin 65536 → Fin 128 → EReal} {ql : Fin 65536 → BitVec 32}
    (hb : Bounded z lab e ql) : close (Loss.loss z lab e ql) (Near.loss z lab e ql) = 1#1 := by
  obtain ⟨a, b, ha, hb', h1, h2⟩ := loss_near hb
  have hc : Ideal.ofBits .f32 0x3C800000#32 = ((1 / 64 : ℝ) : EReal) := by
    simp [Ideal.ofBits, Ideal.ieee, -EReal.coe_mul]; norm_num
  unfold close
  rw [ha, hb', hc, ← EReal.coe_sub, ← EReal.coe_neg, decide_eq_true]
  · rfl
  · refine max_le (EReal.coe_le_coe_iff.2 ?_) (EReal.coe_le_coe_iff.2 ?_) <;> linarith

end Cert.Near.Value
-- ==== Proof.Near.Holds.lean ====
/- The bound: the idealized kernel ends within 1/64 of the loss without the rounding. -/
module

public import proofs.«01_k».proof.Proof.Algebraic
public import proofs.«01_k».proof.Proof.Near.Value

@[expose] public section

set_option maxRecDepth 16384

noncomputable section

open Idealize.ShloMosaic Idealize.ShloMosaic.TcCoe Idealize.SL.Sem

namespace Cert.Proof

/-- Under the precondition the kernel's result passes the test against its arguments, which it leaves as they were. -/
theorem holds : Cert.holds_KernelIdeal_near_pre_drawn := by
  intro m g hpre
  refine (θ_run Cert.KernelIdeal.defs _ _).mono (fun r h c => ?_)
    (θ_run_and (Cert.KernelIdeal.Run.run_main m g) (Cert.KernelIdeal.Run.frame m g))
  have hb := Cert.Drawn.bounded m hpre c
  have hr : r.2.mem ((c.tc : Thread Cert.KernelIdeal.nD Cert.KernelIdeal.τ).loc Cert.KernelIdeal.main_v6)
      = fun _ => Cert.Loss.loss (Cert.KernelIdeal.Value.zed m c) (Cert.KernelIdeal.Value.labels m c)
          (Cert.KernelIdeal.Value.queue m c) (Cert.KernelIdeal.Value.queueLabels m c) := by
    refine ((h.1 c).2 Cert.KernelIdeal.main_v6 (Pipeline.mem_restRefs_of _ (by decide) (by decide))).trans ?_
    rw [Cert.KernelIdeal.Value.tail_at]
    exact funext fun _ => Cert.KernelIdeal.Value.value m c hb
  obtain ⟨e0, e1, e2, e3, e4, e5, e6, e7⟩ := h.2.1 c
  refine ⟨e0, e1, e2, e3, e4, e5, e6, e7, ?_⟩
  rw [hr]
  funext i
  rw [show i = ix0 from funext fun b => b.elim0]
  exact (Cert.Near.Value.test_at _ _ _ _ _ _ _ _ _ hb (fun _ _ => rfl) (fun _ => rfl) (fun _ _ => rfl) fun _ => rfl).trans
    (Cert.Near.Value.passes hb)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.Frames
public import proofs.«01_k».proof.Proof.Algebraic
public import proofs.«01_k».proof.Proof.Near.Holds
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_drawn.Gen.facts, Cert.Post_near.facts,
    frame_kernel, frame_ideal, frame_ideal_drawn, frame_reference, frame_reference_drawn, constants, algebraic, holds⟩

end Cert.Proof

end
